-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 128]⟩ ⟨2, ![4096, 128]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![256, 1]⟩ ⟨2, ![4096, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![4096, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v46) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S128x256 : Shape := ⟨2, ![128, 256]⟩
abbrev S256x256 : Shape := ⟨2, ![256, 256]⟩
abbrev S16x128x512 : Shape := ⟨3, ![16, 128, 512]⟩
abbrev S128x512 : Shape := ⟨2, ![128, 512]⟩
abbrev S16 : Shape := ⟨1, ![16]⟩
abbrev S_ : Shape := ⟨0, ![]⟩
abbrev S1 : Shape := ⟨1, ![1]⟩
abbrev S1x128x256 : Shape := ⟨3, ![1, 128, 256]⟩
abbrev S1x128x512 : Shape := ⟨3, ![1, 128, 512]⟩
abbrev S256x32 : Shape := ⟨2, ![256, 32]⟩
abbrev S256 : Shape := ⟨1, ![256]⟩
abbrev S256x512 : Shape := ⟨2, ![256, 512]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x1, .i32⟩
  | .hbm, ⟨3, _⟩ => ⟨S2x128x256, .bf16⟩
  | .hbm, ⟨4, _⟩ => ⟨S128x256, .bf16⟩
  | .hbm, ⟨5, _⟩ => ⟨S256x256, .f32⟩
  | .local _ .vmem, ⟨0, _⟩ => ⟨S256x128, .bf16⟩
  | .local _ .vmem, ⟨1, _⟩ => ⟨S128x32, .bf16⟩
  | .local _ .vmem, ⟨2, _⟩ => ⟨S256x1, .i32⟩
  | .local _ .vmem, ⟨3, _⟩ => ⟨S2x128x256, .bf16⟩
  | .local _ .vmem, ⟨4, _⟩ => ⟨S128x256, .bf16⟩
  | .local _ .vmem, ⟨5, _⟩ => ⟨S256x256, .f32⟩
  | .local _ .vmem, ⟨6, _⟩ => ⟨S16x128x512, .fp8e4m3⟩
  | .local _ .vmem, ⟨7, _⟩ => ⟨S128x512, .fp8e4m3⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 17 38 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 16

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_2 : BitVec 32 := 0#32
  let v6 : BitVec 1 := Scalar.cmpi .ne v5 c0_i32_2
  v6

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev1 : Nat :=
  let c0_i32_242 : BitVec 32 := 0#32
  let c0_i32_240 : BitVec 32 := 0#32
  let c1_i32_241 : BitVec 32 := 1#32
  let v563 : BitVec 32 := Scalar.muli c0_i32_240 c1_i32_241
  let v564 : BitVec 32 := Scalar.addi c0_i32_242 v563
  v564.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v7 : BitVec 1 := Scalar.cmpi .ne v2 c1_i32_3
  let v8 : BitVec 32 := Scalar.extui v7
  let c0_i32_4 : BitVec 32 := 0#32
  let v9 : BitVec 1 := Scalar.cmpi .ne v8 c0_i32_4
  v9

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev2 : Nat :=
  let c0_i32_242 : BitVec 32 := 0#32
  let c1_i32_240 : BitVec 32 := 1#32
  let c1_i32_241 : BitVec 32 := 1#32
  let v563 : BitVec 32 := Scalar.muli c1_i32_240 c1_i32_241
  let v564 : BitVec 32 := Scalar.addi c0_i32_242 v563
  v564.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_5 : BitVec 32 := 0#32
  let v12 : BitVec 1 := Scalar.cmpi .ne v11 c0_i32_5
  v12

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev3 : Nat :=
  let c0_i32_242 : BitVec 32 := 0#32
  let c2_i32_240 : BitVec 32 := 2#32
  let c1_i32_241 : BitVec 32 := 1#32
  let v563 : BitVec 32 := Scalar.muli c2_i32_240 c1_i32_241
  let v564 : BitVec 32 := Scalar.addi c0_i32_242 v563
  v564.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_6 : BitVec 32 := 0#32
  let v15 : BitVec 1 := Scalar.cmpi .ne v14 c0_i32_6
  v15

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev4 : Nat :=
  let c0_i32_242 : BitVec 32 := 0#32
  let c3_i32_240 : BitVec 32 := 3#32
  let c1_i32_241 : BitVec 32 := 1#32
  let v563 : BitVec 32 := Scalar.muli c3_i32_240 c1_i32_241
  let v564 : BitVec 32 := Scalar.addi c0_i32_242 v563
  v564.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_7 : BitVec 32 := 0#32
  let v18 : BitVec 1 := Scalar.cmpi .ne v17 c0_i32_7
  v18

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev5 : Nat :=
  let c0_i32_242 : BitVec 32 := 0#32
  let c4_i32_240 : BitVec 32 := 4#32
  let c1_i32_241 : BitVec 32 := 1#32
  let v563 : BitVec 32 := Scalar.muli c4_i32_240 c1_i32_241
  let v564 : BitVec 32 := Scalar.addi c0_i32_242 v563
  v564.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_8 : BitVec 32 := 0#32
  let v21 : BitVec 1 := Scalar.cmpi .ne v20 c0_i32_8
  v21

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev6 : Nat :=
  let c0_i32_242 : BitVec 32 := 0#32
  let c5_i32_240 : BitVec 32 := 5#32
  let c1_i32_241 : BitVec 32 := 1#32
  let v563 : BitVec 32 := Scalar.muli c5_i32_240 c1_i32_241
  let v564 : BitVec 32 := Scalar.addi c0_i32_242 v563
  v564.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_9 : BitVec 32 := 0#32
  let v24 : BitVec 1 := Scalar.cmpi .ne v23 c0_i32_9
  v24

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev7 : Nat :=
  let c0_i32_242 : BitVec 32 := 0#32
  let c6_i32_240 : BitVec 32 := 6#32
  let c1_i32_241 : BitVec 32 := 1#32
  let v563 : BitVec 32 := Scalar.muli c6_i32_240 c1_i32_241
  let v564 : BitVec 32 := Scalar.addi c0_i32_242 v563
  v564.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_10 : BitVec 32 := 0#32
  let v27 : BitVec 1 := Scalar.cmpi .ne v26 c0_i32_10
  v27

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev8 : Nat :=
  let c0_i32_242 : BitVec 32 := 0#32
  let c7_i32_240 : BitVec 32 := 7#32
  let c1_i32_241 : BitVec 32 := 1#32
  let v563 : BitVec 32 := Scalar.muli c7_i32_240 c1_i32_241
  let v564 : BitVec 32 := Scalar.addi c0_i32_242 v563
  v564.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_11 : BitVec 32 := 0#32
  let v30 : BitVec 1 := Scalar.cmpi .ne v29 c0_i32_11
  v30

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev9 : Nat :=
  let c0_i32_242 : BitVec 32 := 0#32
  let c8_i32_240 : BitVec 32 := 8#32
  let c1_i32_241 : BitVec 32 := 1#32
  let v563 : BitVec 32 := Scalar.muli c8_i32_240 c1_i32_241
  let v564 : BitVec 32 := Scalar.addi c0_i32_242 v563
  v564.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_12 : BitVec 32 := 0#32
  let v33 : BitVec 1 := Scalar.cmpi .ne v32 c0_i32_12
  v33

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev10 : Nat :=
  let c0_i32_242 : BitVec 32 := 0#32
  let c9_i32_240 : BitVec 32 := 9#32
  let c1_i32_241 : BitVec 32 := 1#32
  let v563 : BitVec 32 := Scalar.muli c9_i32_240 c1_i32_241
  let v564 : BitVec 32 := Scalar.addi c0_i32_242 v563
  v564.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_13 : BitVec 32 := 0#32
  let v36 : BitVec 1 := Scalar.cmpi .ne v35 c0_i32_13
  v36

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev11 : Nat :=
  let c0_i32_242 : BitVec 32 := 0#32
  let c10_i32_240 : BitVec 32 := 10#32
  let c1_i32_241 : BitVec 32 := 1#32
  let v563 : BitVec 32 := Scalar.muli c10_i32_240 c1_i32_241
  let v564 : BitVec 32 := Scalar.addi c0_i32_242 v563
  v564.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_14 : BitVec 32 := 0#32
  let v39 : BitVec 1 := Scalar.cmpi .ne v38 c0_i32_14
  v39

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev12 : Nat :=
  let c0_i32_242 : BitVec 32 := 0#32
  let c11_i32_240 : BitVec 32 := 11#32
  let c1_i32_241 : BitVec 32 := 1#32
  let v563 : BitVec 32 := Scalar.muli c11_i32_240 c1_i32_241
  let v564 : BitVec 32 := Scalar.addi c0_i32_242 v563
  v564.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_15 : BitVec 32 := 0#32
  let v42 : BitVec 1 := Scalar.cmpi .ne v41 c0_i32_15
  v42

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev13 : Nat :=
  let c0_i32_242 : BitVec 32 := 0#32
  let c12_i32_240 : BitVec 32 := 12#32
  let c1_i32_241 : BitVec 32 := 1#32
  let v563 : BitVec 32 := Scalar.muli c12_i32_240 c1_i32_241
  let v564 : BitVec 32 := Scalar.addi c0_i32_242 v563
  v564.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_16 : BitVec 32 := 0#32
  let v45 : BitVec 1 := Scalar.cmpi .ne v44 c0_i32_16
  v45

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev14 : Nat :=
  let c0_i32_242 : BitVec 32 := 0#32
  let c13_i32_240 : BitVec 32 := 13#32
  let c1_i32_241 : BitVec 32 := 1#32
  let v563 : BitVec 32 := Scalar.muli c13_i32_240 c1_i32_241
  let v564 : BitVec 32 := Scalar.addi c0_i32_242 v563
  v564.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_17 : BitVec 32 := 0#32
  let v48 : BitVec 1 := Scalar.cmpi .ne v47 c0_i32_17
  v48

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev15 : Nat :=
  let c0_i32_242 : BitVec 32 := 0#32
  let c14_i32_240 : BitVec 32 := 14#32
  let c1_i32_241 : BitVec 32 := 1#32
  let v563 : BitVec 32 := Scalar.muli c14_i32_240 c1_i32_241
  let v564 : BitVec 32 := Scalar.addi c0_i32_242 v563
  v564.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_18 : BitVec 32 := 0#32
  let v51 : BitVec 1 := Scalar.cmpi .ne v50 c0_i32_18
  v51

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev16 : Nat :=
  let c0_i32_242 : BitVec 32 := 0#32
  let c15_i32_240 : BitVec 32 := 15#32
  let c1_i32_241 : BitVec 32 := 1#32
  let v563 : BitVec 32 := Scalar.muli c15_i32_240 c1_i32_241
  let v564 : BitVec 32 := Scalar.addi c0_i32_242 v563
  v564.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_25 : BitVec 32 := 0#32
  let v63 : BitVec 1 := Scalar.cmpi .ne v2 c0_i32_25
  let v64 : BitVec 32 := Scalar.extui v63
  let c0_i32_26 : BitVec 32 := 0#32
  let v65 : BitVec 1 := Scalar.cmpi .ne v64 c0_i32_26
  v65

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev17 : Nat :=
  let c0_i32_245 : BitVec 32 := 0#32
  let c0_i32_243 : BitVec 32 := 0#32
  let c1_i32_244 : BitVec 32 := 1#32
  let v563 : BitVec 32 := Scalar.muli c0_i32_243 c1_i32_244
  let v564 : BitVec 32 := Scalar.addi c0_i32_245 v563
  v564.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_27 : BitVec 32 := 1#32
  let v66 : BitVec 1 := Scalar.cmpi .ne v2 c1_i32_27
  let v67 : BitVec 32 := Scalar.extui v66
  let c0_i32_28 : BitVec 32 := 0#32
  let v68 : BitVec 1 := Scalar.cmpi .ne v67 c0_i32_28
  v68

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev18 : Nat :=
  let c0_i32_245 : BitVec 32 := 0#32
  let c1_i32_243 : BitVec 32 := 1#32
  let c1_i32_244 : BitVec 32 := 1#32
  let v563 : BitVec 32 := Scalar.muli c1_i32_243 c1_i32_244
  let v564 : BitVec 32 := Scalar.addi c0_i32_245 v563
  v564.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_29 : BitVec 32 := 2#32
  let v69 : BitVec 1 := Scalar.cmpi .ne v2 c2_i32_29
  let v70 : BitVec 32 := Scalar.extui v69
  let c0_i32_30 : BitVec 32 := 0#32
  let v71 : BitVec 1 := Scalar.cmpi .ne v70 c0_i32_30
  v71

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev19 : Nat :=
  let c0_i32_245 : BitVec 32 := 0#32
  let c2_i32_243 : BitVec 32 := 2#32
  let c1_i32_244 : BitVec 32 := 1#32
  let v563 : BitVec 32 := Scalar.muli c2_i32_243 c1_i32_244
  let v564 : BitVec 32 := Scalar.addi c0_i32_245 v563
  v564.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_31 : BitVec 32 := 3#32
  let v72 : BitVec 1 := Scalar.cmpi .ne v2 c3_i32_31
  let v73 : BitVec 32 := Scalar.extui v72
  let c0_i32_32 : BitVec 32 := 0#32
  let v74 : BitVec 1 := Scalar.cmpi .ne v73 c0_i32_32
  v74

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev20 : Nat :=
  let c0_i32_245 : BitVec 32 := 0#32
  let c3_i32_243 : BitVec 32 := 3#32
  let c1_i32_244 : BitVec 32 := 1#32
  let v563 : BitVec 32 := Scalar.muli c3_i32_243 c1_i32_244
  let v564 : BitVec 32 := Scalar.addi c0_i32_245 v563
  v564.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_33 : BitVec 32 := 4#32
  let v75 : BitVec 1 := Scalar.cmpi .ne v2 c4_i32_33
  let v76 : BitVec 32 := Scalar.extui v75
  let c0_i32_34 : BitVec 32 := 0#32
  let v77 : BitVec 1 := Scalar.cmpi .ne v76 c0_i32_34
  v77

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev21 : Nat :=
  let c0_i32_245 : BitVec 32 := 0#32
  let c4_i32_243 : BitVec 32 := 4#32
  let c1_i32_244 : BitVec 32 := 1#32
  let v563 : BitVec 32 := Scalar.muli c4_i32_243 c1_i32_244
  let v564 : BitVec 32 := Scalar.addi c0_i32_245 v563
  v564.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_35 : BitVec 32 := 5#32
  let v78 : BitVec 1 := Scalar.cmpi .ne v2 c5_i32_35
  let v79 : BitVec 32 := Scalar.extui v78
  let c0_i32_36 : BitVec 32 := 0#32
  let v80 : BitVec 1 := Scalar.cmpi .ne v79 c0_i32_36
  v80

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev22 : Nat :=
  let c0_i32_245 : BitVec 32 := 0#32
  let c5_i32_243 : BitVec 32 := 5#32
  let c1_i32_244 : BitVec 32 := 1#32
  let v563 : BitVec 32 := Scalar.muli c5_i32_243 c1_i32_244
  let v564 : BitVec 32 := Scalar.addi c0_i32_245 v563
  v564.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_37 : BitVec 32 := 6#32
  let v81 : BitVec 1 := Scalar.cmpi .ne v2 c6_i32_37
  let v82 : BitVec 32 := Scalar.extui v81
  let c0_i32_38 : BitVec 32 := 0#32
  let v83 : BitVec 1 := Scalar.cmpi .ne v82 c0_i32_38
  v83

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev23 : Nat :=
  let c0_i32_245 : BitVec 32 := 0#32
  let c6_i32_243 : BitVec 32 := 6#32
  let c1_i32_244 : BitVec 32 := 1#32
  let v563 : BitVec 32 := Scalar.muli c6_i32_243 c1_i32_244
  let v564 : BitVec 32 := Scalar.addi c0_i32_245 v563
  v564.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_39 : BitVec 32 := 7#32
  let v84 : BitVec 1 := Scalar.cmpi .ne v2 c7_i32_39
  let v85 : BitVec 32 := Scalar.extui v84
  let c0_i32_40 : BitVec 32 := 0#32
  let v86 : BitVec 1 := Scalar.cmpi .ne v85 c0_i32_40
  v86

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev24 : Nat :=
  let c0_i32_245 : BitVec 32 := 0#32
  let c7_i32_243 : BitVec 32 := 7#32
  let c1_i32_244 : BitVec 32 := 1#32
  let v563 : BitVec 32 := Scalar.muli c7_i32_243 c1_i32_244
  let v564 : BitVec 32 := Scalar.addi c0_i32_245 v563
  v564.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_41 : BitVec 32 := 8#32
  let v87 : BitVec 1 := Scalar.cmpi .ne v2 c8_i32_41
  let v88 : BitVec 32 := Scalar.extui v87
  let c0_i32_42 : BitVec 32 := 0#32
  let v89 : BitVec 1 := Scalar.cmpi .ne v88 c0_i32_42
  v89

def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev25 : Nat :=
  let c0_i32_245 : BitVec 32 := 0#32
  let c8_i32_243 : BitVec 32 := 8#32
  let c1_i32_244 : BitVec 32 := 1#32
  let v563 : BitVec 32 := Scalar.muli c8_i32_243 c1_i32_244
  let v564 : BitVec 32 := Scalar.addi c0_i32_245 v563
  v564.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_43 : BitVec 32 := 9#32
  let v90 : BitVec 1 := Scalar.cmpi .ne v2 c9_i32_43
  let v91 : BitVec 32 := Scalar.extui v90
  let c0_i32_44 : BitVec 32 := 0#32
  let v92 : BitVec 1 := Scalar.cmpi .ne v91 c0_i32_44
  v92

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev26 : Nat :=
  let c0_i32_245 : BitVec 32 := 0#32
  let c9_i32_243 : BitVec 32 := 9#32
  let c1_i32_244 : BitVec 32 := 1#32
  let v563 : BitVec 32 := Scalar.muli c9_i32_243 c1_i32_244
  let v564 : BitVec 32 := Scalar.addi c0_i32_245 v563
  v564.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_45 : BitVec 32 := 10#32
  let v93 : BitVec 1 := Scalar.cmpi .ne v2 c10_i32_45
  let v94 : BitVec 32 := Scalar.extui v93
  let c0_i32_46 : BitVec 32 := 0#32
  let v95 : BitVec 1 := Scalar.cmpi .ne v94 c0_i32_46
  v95

def k0_off37 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev27 : Nat :=
  let c0_i32_245 : BitVec 32 := 0#32
  let c10_i32_243 : BitVec 32 := 10#32
  let c1_i32_244 : BitVec 32 := 1#32
  let v563 : BitVec 32 := Scalar.muli c10_i32_243 c1_i32_244
  let v564 : BitVec 32 := Scalar.addi c0_i32_245 v563
  v564.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_47 : BitVec 32 := 11#32
  let v96 : BitVec 1 := Scalar.cmpi .ne v2 c11_i32_47
  let v97 : BitVec 32 := Scalar.extui v96
  let c0_i32_48 : BitVec 32 := 0#32
  let v98 : BitVec 1 := Scalar.cmpi .ne v97 c0_i32_48
  v98

def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev28 : Nat :=
  let c0_i32_245 : BitVec 32 := 0#32
  let c11_i32_243 : BitVec 32 := 11#32
  let c1_i32_244 : BitVec 32 := 1#32
  let v563 : BitVec 32 := Scalar.muli c11_i32_243 c1_i32_244
  let v564 : BitVec 32 := Scalar.addi c0_i32_245 v563
  v564.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_49 : BitVec 32 := 12#32
  let v99 : BitVec 1 := Scalar.cmpi .ne v2 c12_i32_49
  let v100 : BitVec 32 := Scalar.extui v99
  let c0_i32_50 : BitVec 32 := 0#32
  let v101 : BitVec 1 := Scalar.cmpi .ne v100 c0_i32_50
  v101

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev29 : Nat :=
  let c0_i32_245 : BitVec 32 := 0#32
  let c12_i32_243 : BitVec 32 := 12#32
  let c1_i32_244 : BitVec 32 := 1#32
  let v563 : BitVec 32 := Scalar.muli c12_i32_243 c1_i32_244
  let v564 : BitVec 32 := Scalar.addi c0_i32_245 v563
  v564.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_51 : BitVec 32 := 13#32
  let v102 : BitVec 1 := Scalar.cmpi .ne v2 c13_i32_51
  let v103 : BitVec 32 := Scalar.extui v102
  let c0_i32_52 : BitVec 32 := 0#32
  let v104 : BitVec 1 := Scalar.cmpi .ne v103 c0_i32_52
  v104

def k0_off43 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev30 : Nat :=
  let c0_i32_245 : BitVec 32 := 0#32
  let c13_i32_243 : BitVec 32 := 13#32
  let c1_i32_244 : BitVec 32 := 1#32
  let v563 : BitVec 32 := Scalar.muli c13_i32_243 c1_i32_244
  let v564 : BitVec 32 := Scalar.addi c0_i32_245 v563
  v564.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_53 : BitVec 32 := 14#32
  let v105 : BitVec 1 := Scalar.cmpi .ne v2 c14_i32_53
  let v106 : BitVec 32 := Scalar.extui v105
  let c0_i32_54 : BitVec 32 := 0#32
  let v107 : BitVec 1 := Scalar.cmpi .ne v106 c0_i32_54
  v107

def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev31 : Nat :=
  let c0_i32_245 : BitVec 32 := 0#32
  let c14_i32_243 : BitVec 32 := 14#32
  let c1_i32_244 : BitVec 32 := 1#32
  let v563 : BitVec 32 := Scalar.muli c14_i32_243 c1_i32_244
  let v564 : BitVec 32 := Scalar.addi c0_i32_245 v563
  v564.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_55 : BitVec 32 := 15#32
  let v108 : BitVec 1 := Scalar.cmpi .ne v2 c15_i32_55
  let v109 : BitVec 32 := Scalar.extui v108
  let c0_i32_56 : BitVec 32 := 0#32
  let v110 : BitVec 1 := Scalar.cmpi .ne v109 c0_i32_56
  v110

def k0_off47 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  ![v2.toNat, 0, 0]
def k0_dev32 : Nat :=
  let c0_i32_245 : BitVec 32 := 0#32
  let c15_i32_243 : BitVec 32 := 15#32
  let c1_i32_244 : BitVec 32 := 1#32
  let v563 : BitVec 32 := Scalar.muli c15_i32_243 c1_i32_244
  let v564 : BitVec 32 := Scalar.addi c0_i32_245 v563
  v564.toNat
def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v112 : Index := Scalar.indexCast v2
  let c0_57 : Index := 0#32
  let c0_58 : Index := 0#32
  ![v112.toNat, 0, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S4096x128 : Shape := ⟨2, ![4096, 128]⟩
abbrev S128x32 : Shape := ⟨2, ![128, 32]⟩
abbrev S4096x1 : Shape := ⟨2, ![4096, 1]⟩
abbrev S32x128x256 : Shape := ⟨3, ![32, 128, 256]⟩
abbrev S128x256 : Shape := ⟨2, ![128, 256]⟩
abbrev S4096x32 : Shape := ⟨2, ![4096, 32]⟩
abbrev S_ : Shape := ⟨0, ![]⟩
abbrev S4096 : Shape := ⟨1, ![4096]⟩
abbrev S4096x256 : Shape := ⟨2, ![4096, 256]⟩
abbrev S4096x2 : Shape := ⟨2, ![4096, 2]⟩
abbrev S2 : Shape := ⟨1, ![2]⟩
abbrev S1x2 : Shape := ⟨2, ![1, 2]⟩
abbrev S1 : Shape := ⟨1, ![1]⟩
abbrev S1x1 : Shape := ⟨2, ![1, 1]⟩
abbrev S4096x128x256 : Shape := ⟨3, ![4096, 128, 256]⟩

abbrev nBuf : Space → Nat
  | .hbm => 62
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x32, .bf16⟩
  | .hbm, ⟨2, _⟩ => ⟨S4096x1, .i32⟩
  | .hbm, ⟨3, _⟩ => ⟨S32x128x256, .bf16⟩
  | .hbm, ⟨4, _⟩ => ⟨S128x256, .bf16⟩
  | .hbm, ⟨5, _⟩ => ⟨S4096x128, .f32⟩
  | .hbm, ⟨6, _⟩ => ⟨S128x32, .f32⟩
  | .hbm, ⟨7, _⟩ => ⟨S32x128x256, .f32⟩
  | .hbm, ⟨8, _⟩ => ⟨S128x256, .f32⟩
  | .hbm, ⟨9, _⟩ => ⟨S4096x32, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x32, .f32⟩
  | .hbm, ⟨14, _⟩ => ⟨S4096x32, .f32⟩
  | .hbm, ⟨15, _⟩ => ⟨S4096x32, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S4096x32, .f32⟩
  | .hbm, ⟨20, _⟩ => ⟨S4096x32, .f32⟩
  | .hbm, ⟨21, _⟩ => ⟨S4096x256, .f32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096x1, .i32⟩
  | .hbm, ⟨26, _⟩ => ⟨S4096x2, .i32⟩
  | .hbm, ⟨27, _⟩ => ⟨S2, .i32⟩
  | .hbm, ⟨28, _⟩ => ⟨S_, .i32⟩
  | .hbm, ⟨29, _⟩ => ⟨S4096x2, .i32⟩
  | .hbm, ⟨30, _⟩ => ⟨S4096x2, .i1⟩
  | .hbm, ⟨31, _⟩ => ⟨S1x2, .i32⟩
  | .hbm, ⟨32, _⟩ => ⟨S4096x2, .i32⟩
  | .hbm, ⟨33, _⟩ => ⟨S4096x2, .i1⟩
  | .hbm, ⟨34, _⟩ => ⟨S4096x2, .i1⟩
  | .hbm, ⟨35, _⟩ => ⟨S_, .i1⟩
  | .hbm, ⟨36, _⟩ => ⟨S4096, .i1⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S4096x1, .i32⟩
  | .hbm, ⟨42, _⟩ => ⟨S1, .i32⟩
  | .hbm, ⟨43, _⟩ => ⟨S_, .i32⟩
  | .hbm, ⟨44, _⟩ => ⟨S4096x1, .i32⟩
  | .hbm, ⟨45, _⟩ => ⟨S4096x1, .i1⟩
  | .hbm, ⟨46, _⟩ => ⟨S1x1, .i32⟩
  | .hbm, ⟨47, _⟩ => ⟨S4096x1, .i32⟩
  | .hbm, ⟨48, _⟩ => ⟨S4096x1, .i1⟩
  | .hbm, ⟨49, _⟩ => ⟨S4096x1, .i1⟩
  | .hbm, ⟨50, _⟩ => ⟨S_, .i1⟩
  | .hbm, ⟨51, _⟩ => ⟨S4096, .i1⟩
  | .hbm, ⟨52, _⟩ => ⟨S4096x128x256, .f32⟩
  | .hbm, ⟨53, _⟩ => ⟨S4096x128x256, .i1⟩
  | .hbm, ⟨54, _⟩ => ⟨S_, .f32⟩
  | .hbm, ⟨55, _⟩ => ⟨S4096x128x256, .f32⟩
  | .hbm, ⟨56, _⟩ => ⟨S4096x128x256, .f32⟩
  | .hbm, ⟨57, _⟩ => ⟨S4096x1, .f32⟩
  | .hbm, ⟨58, _⟩ => ⟨S4096x256, .f32⟩
  | .hbm, ⟨59, _⟩ => ⟨S4096x256, .f32⟩
  | .hbm, ⟨60, _⟩ => ⟨S4096x256, .f32⟩
  | .hbm, ⟨61, _⟩ => ⟨S4096x256, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_2 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_6 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Proof.Cells.lean ====
/-
# The semaphores, the buffers and the schedule of the exchange

Every device holds a chunk of the expert weights and sends it to every other device.  Device `c` owns, for every
device `j`, three semaphores: `ready j` (device `j` raises it once device `c` may write into `j`'s table), `sent j`
(raised when `c`'s copy to `j` has been read) and `here j` (raised when `j`'s chunk has arrived at `c`); besides
these it owns the barrier semaphore, which it raises and waits for by itself.

This file names these cells and says, for each, what is paid into it: the amount and the memory that is handed over
with it.  A cell whose partner `j` is the device itself is never used.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.ValueLayout
public import Idealize.ShloMosaic.Lib.Tactic

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the pipeline's component beside the exchange's -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers -/

/-- The table of all devices' chunks, and the device's own chunk. -/
abbrev commM : Memref sig .tc .vmem S16x128x512 .fp8e4m3 := Memref.whole cc0_scratch0
abbrev mineM : Memref sig .tc .vmem S128x512 .fp8e4m3 := Memref.whole cc0_scratch1

/-- A slot of the table lies inside it. -/
theorem slot_inb (s : Dev nD) : ∀ a, (![s.val, 0, 0] : Fin 3 → ℕ) a + S1x128x512.size a ≤ S16x128x512.size a := by
  revert s; decide

/-- The rectangle of slot `s`. -/
abbrev slotR (s : Dev nD) : Rect S16x128x512 := Rect.unit (s := S16x128x512) ![s.val, 0, 0] S1x128x512.size (slot_inb s)

/-- Slot `s` of the table. -/
abbrev slotM (s : Dev nD) : Memref sig .tc .vmem S128x512 .fp8e4m3 :=
  (commM.slice (slotR s) (fun _ => rfl)).squeeze S128x512 squeezes_S1x128x512_S128x512

/-- The elements of slot `s`. -/
abbrev slotSet (s : Dev nD) : Finset S16x128x512.Idx := (slotR s).set

theorem slotM_set (s : Dev nD) : (slotM s).view.set = slotSet s :=
  (View.set_reshape _ _).trans (View.set_slice_whole _ _)

theorem access_set (s : Dev nD) : (commM.access (slotR s)).set = slotSet s := View.set_slice_whole _ _

/-! ## The semaphores -/

/-- An element of an array of sixteen semaphores. -/
theorem sem_inb (j : Dev nD) : ∀ a, (![j.val] : Fin 1 → ℕ) a + S1.size a ≤ S16.size a := by revert j; decide

abbrev semAt {α : Type} (a : SemArray α S16) (off : Fin 1 → ℕ) (h : ∀ a, off a + S1.size a ≤ S16.size a) : α :=
  ((a.slice (Rect.unit (s := S16) off S1.size h)).squeeze S_ squeezes_S1_S_).sem

abbrev barS : Sem sig := (SemArray.scalar (sig.barrier 0 rfl) : Sems sig S_).sem

/-- The kinds of a device's cells: for a partner `j`, ready, sent and here; and the barrier. -/
abbrev Kind : Type := (Fin 3 × Dev nD) ⊕ Unit

/-- The kernel's own semaphores. -/
abbrev osem : Fin 3 × Dev nD → SemLoc sig := fun x => match x.1 with
  | 0 => .reg (semAt cc0_scratch4 ![x.2.val] (sem_inb x.2))
  | 1 => .dma (semAt cc0_scratch2 ![x.2.val] (sem_inb x.2))
  | 2 => .dma (semAt cc0_scratch3 ![x.2.val] (sem_inb x.2))

/-- All the semaphores of the exchange. -/
abbrev csem : Kind → SemLoc sig := fun | .inl x => osem x | .inr _ => .reg barS

abbrev kcell (ck : Dev nD × Kind) : GSem nD τ sig := ((ck.1 : Thread nD τ), csem ck.2)

abbrev barCell (c : Dev nD) : GSem nD τ sig := kcell (c, .inr ())
abbrev rdyCell (c j : Dev nD) : GSem nD τ sig := kcell (c, .inl (0, j))
abbrev sndCell (c j : Dev nD) : GSem nD τ sig := kcell (c, .inl (1, j))
abbrev rcvCell (c j : Dev nD) : GSem nD τ sig := kcell (c, .inl (2, j))

set_option maxRecDepth 65536 in
theorem csem_injective : Function.Injective csem := by decide +kernel

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

theorem kcell_eq_iff {x y : Dev nD × Kind} : kcell x = kcell y ↔ x = y := kcell_injective.eq_iff

/-- The amount a copy of one chunk raises its two semaphores by. -/
abbrev N : ℕ := (slotM 0).view.dmaCredit
theorem N_pos : 0 < N := View.dmaCredit_pos _ (by decide)

/-- The kind of a semaphore. -/
def dec (sl : SemLoc sig) : Option Kind := open Classical in if h : ∃ k, csem k = sl then some h.choose else none

theorem dec_csem (k : Kind) : dec (csem k) = some k := by
  unfold dec
  have h : ∃ k', csem k' = csem k := ⟨k, rfl⟩
  rw [dif_pos h]
  exact congrArg some (csem_injective h.choose_spec)

/-- A cell is used unless its partner is the device itself. -/
def used (c : Dev nD) : Option Kind → Bool
  | some (.inl (_, j)) => decide (j ≠ c)
  | some (.inr _) => true
  | none => false

/-! ## The contents -/

/-- The table holding every device's chunk in its slot, `ch d` being the chunk of device `d`. -/
def table (ch : Dev nD → S128x512.Idx → Elt F .fp8e4m3) : S16x128x512.Idx → Elt F .fp8e4m3 := fun i =>
  ch ⟨(i 0).val, (i 0).isLt⟩ (ix2 (n0 := 128) (n1 := 512) ⟨(i 1).val, (i 1).isLt⟩ ⟨(i 2).val, (i 2).isLt⟩)

variable (ch : Dev nD → S128x512.Idx → Elt F .fp8e4m3)

/-- Slot `s` of device `c`'s table, at contents `f`. -/
def slotPts (c s : Dev nD) (f : Buf (Elt F) ((c : Thread nD τ).loc cc0_scratch0)) : sProp 𝕄 :=
  ((c : Thread nD τ).loc cc0_scratch0) ↦[slotSet s]{fullShare} f

/-- Device `c`'s own chunk, at a share. -/
def minePts (c : Dev nD) (q : PosShare TreeShare) : sProp 𝕄 :=
  ((c : Thread nD τ).loc cc0_scratch1) ↦{q} (ch c : Buf (Elt F) ((c : Thread nD τ).loc cc0_scratch1))

/-- The share of its own chunk that device `c` lends to the copy to device `j`. -/
abbrev lent (j : Dev nD) : PosShare TreeShare := ShareLeaves.leaf 4 fullShare j

instance slotPts_storable (c s : Dev nD) (f) : BI.Storable (upEmb : UEmb _ 𝕄) (slotPts (F := F) c s f) := by unfold slotPts; infer_instance
instance minePts_storable (c : Dev nD) (q) : BI.Storable (upEmb : UEmb _ 𝕄) (minePts (F := F) ch c q) := by unfold minePts; infer_instance

/-! ## The schedule -/

/-- What is handed over to device `c` with a cell's one payment. -/
def pay (c : Dev nD) : Option Kind → sProp 𝕄
  | some (.inl (0, j)) => iprop(∃ f, slotPts (F := F) j c f)
  | some (.inl (1, j)) => minePts ch c (lent j)
  | some (.inl (2, j)) => slotPts c j (table ch)
  | _ => iprop(emp)

instance pay_storable (c : Dev nD) (k) : BI.Storable (upEmb : UEmb _ 𝕄) (pay (F := F) ch c k) := by
  unfold pay; split <;> infer_instance

/-- The amount of a payment into a semaphore. -/
def amt : SemLoc sig → ℕ | .reg _ => 1 | .dma _ => N

theorem amt_pos (sl : SemLoc sig) : 0 < amt sl := by cases sl; exacts [Nat.one_pos, N_pos]

/-- One round; each used cell is paid once. -/
def plan : Rounds.Schedule (GSem nD τ sig) Unit 𝕄 where
  duties g r := if r = 0 ∧ g.1.2 = .tc ∧ used g.1.1 (dec g.2) = true then {()} else ∅
  unitless _ := False
  amount g _ _ := amt g.2
  payload g _ _ := pay ch g.1.1 (dec g.2)
  amount_pos g _ _ _ := amt_pos g.2

instance plan_payload_storable (g : GSem nD τ sig) (r : ℕ) (d : Unit) :
    BI.Storable (upEmb : UEmb _ 𝕄) ((plan (F := F) ch).payload g r d) := by
  show BI.Storable upEmb (pay ch g.1.1 (dec g.2)); infer_instance

theorem duties_used (c : Dev nD) (k : Kind) (h : used c (some k) = true) : (plan (F := F) ch).duties (kcell (c, k)) 0 = {()} := by
  dsimp only [plan]; rw [dec_csem]; exact if_pos ⟨rfl, rfl, h⟩

theorem duties_later (g : GSem nD τ sig) : ∀ r, 1 ≤ r → (plan (F := F) ch).duties g r = ∅ :=
  fun r hr => if_neg fun h => by omega

theorem duties_unused (c : Dev nD) (k : Kind) (h : used c (some k) = false) :
    ∀ r, 0 ≤ r → (plan (F := F) ch).duties (kcell (c, k)) r = ∅ := fun r _ => by
  dsimp only [plan]; rw [dec_csem]; exact if_neg fun h' => by rw [h] at h'; exact Bool.false_ne_true h'.2.2

theorem used_of_ne {c j : Dev nD} (k : Fin 3) (h : j ≠ c) : used c (some (.inl (k, j))) = true := decide_eq_true h

theorem amount_cell (c : Dev nD) (k : Kind) (d : Unit) : (plan (F := F) ch).amount (kcell (c, k)) 0 d = amt (csem k) := rfl

theorem payload_cell (c : Dev nD) (k : Kind) (d : Unit) : (plan (F := F) ch).payload (kcell (c, k)) 0 d = pay ch c (some k) := by
  dsimp only [plan]; rw [dec_csem]

theorem expect_cell (c : Dev nD) (k : Kind) (h : used c (some k) = true) : (plan (F := F) ch).expect (kcell (c, k)) 0 = amt (csem k) := by
  unfold Schedule.expect Schedule.amountOf; rw [duties_used ch c k h, Finset.sum_singleton, amount_cell]

/-- The whole of a used cell's round: its one payload. -/
theorem rest_cell (c : Dev nD) (k : Kind) (h : used c (some k) = true) :
    bigSep ((plan (F := F) ch).duties (kcell (c, k)) 0 \ ∅) (fun d => (plan (F := F) ch).payload (kcell (c, k)) 0 d) = pay ch c (some k) := by
  rw [Finset.sdiff_empty, duties_used ch c k h, bigSep_singleton, payload_cell]

/-! ## What a device owes; the levels -/

/-- The devices from number `n` on, other than `c`. -/
abbrev others (c : Dev nD) (n : ℕ) : Finset (Dev nD) := Finset.univ.filter fun j => n ≤ j.val ∧ j ≠ c

/-- What device `c` still owes to the cells of kind `k` of the devices from number `n` on. -/
def debt (k : Fin 3) (a : ℕ) (c : Dev nD) (n : ℕ) : CellTallies nD τ sig Unit :=
  ∑ j ∈ others c n, tallyAt (kcell (j, .inl (k, c))) () a

abbrev debtRcv (c : Dev nD) (n : ℕ) : CellTallies nD τ sig Unit := debt 2 N c n
/-- What is owed before the signal to device `n`: that signal, the later ones and every copy. -/
def debtRdy (c : Dev nD) (n : ℕ) : CellTallies nD τ sig Unit := debtRcv c 0 + debt 0 1 c n

/-- What device `c` owes at launch. -/
def O₀ (c : Dev nD) : CellTallies nD τ sig Unit := debtRdy c 0 + tallyAt (barCell c) () 1

theorem debt_self (k : Fin 3) (a : ℕ) (c : Dev nD) : debt k a c c.val = debt k a c (c.val + 1) := by
  unfold debt
  congr 1
  ext j; simp only [Finset.mem_filter, Finset.mem_univ, true_and]
  constructor
  · rintro ⟨h, hn⟩; exact ⟨by have : j.val ≠ c.val := fun e => hn (Fin.ext e); omega, hn⟩
  · rintro ⟨h, hn⟩; exact ⟨by omega, hn⟩

theorem debt_step (k : Fin 3) (a : ℕ) (c n : Dev nD) (h : n ≠ c) :
    debt k a c n.val = debt k a c (n.val + 1) + tallyAt (kcell (n, .inl (k, c))) () a := by
  unfold debt
  rw [show others c n.val = insert n (others c (n.val + 1)) from by
    ext j; simp only [Finset.mem_filter, Finset.mem_univ, true_and, Finset.mem_insert]
    constructor
    · rintro ⟨h1, h2⟩
      by_cases e : j = n
      · exact Or.inl e
      · exact Or.inr ⟨by have : j.val ≠ n.val := fun e' => e (Fin.ext e'); omega, h2⟩
    · rintro (rfl | ⟨h1, h2⟩)
      · exact ⟨le_rfl, h⟩
      · exact ⟨by omega, h2⟩, Finset.sum_insert (by simp), add_comm]

theorem debt_end (k : Fin 3) (a : ℕ) (c : Dev nD) : debt k a c 16 = 0 := by
  unfold debt
  rw [show others c 16 = ∅ from by ext j; simp only [Finset.mem_filter, Finset.mem_univ, true_and, Finset.notMem_empty, iff_false]; intro h; have : j.val < 16 := j.isLt; omega]
  rfl

theorem debt_apply (k : Fin 3) (a : ℕ) (c : Dev nD) (n : ℕ) (g : GSem nD τ sig) :
    debt k a c n g () = ∑ j ∈ others c n, if g = kcell (j, .inl (k, c)) then a else 0 := by
  unfold debt
  rw [Finset.sum_apply, Finsupp.finset_sum_apply]
  refine Finset.sum_congr rfl fun j _ => ?_
  rw [tallyAt_apply]; by_cases h : g = kcell (j, .inl (k, c)) <;> simp [h]

theorem debt_pos {k : Fin 3} {a : ℕ} {c : Dev nD} {n : ℕ} {g : GSem nD τ sig} (h : 0 < debt k a c n g ()) :
    ∃ j, g = kcell (j, .inl (k, c)) := by
  rw [debt_apply] at h
  by_contra hn
  rw [Finset.sum_eq_zero fun j _ => if_neg fun e => hn ⟨j, e⟩] at h
  exact Nat.lt_irrefl 0 h

def L (g : GSem nD τ sig) : Finset Unit := if g.1.2 = .tc then {()} else ∅

/-- The order in which the cells are waited for: barrier, ready, here; a sent cell and every other one at the bottom. -/
def rank : Option Kind → ℕ
  | some (.inr _) => 1
  | some (.inl (0, _)) => 2
  | some (.inl (2, _)) => 3
  | _ => 0

def lv (g : GSem nD τ sig) (_ : Unit) : ℕ := rank (dec g.2)

theorem lv_cell (x : Dev nD × Kind) (u : Unit) : lv (kcell x) u = rank (some x.2) := by unfold lv; rw [dec_csem]

theorem L_of_ne (g : GSem nD τ sig) (h : g.1.2 ≠ .tc) : L g = ∅ := if_neg h
theorem L_tc (c : Dev nD) (sm : SemLoc sig) : L ((c : Thread nD τ), sm) = {()} := if_pos rfl

/-- A wait is allowed when everything owed is ranked above the cell waited for. -/
theorem mayWait_of (c : Dev nD) (sl : SemLoc sig) (r : ℕ) (hr : rank (dec sl) ≤ r) (O : CellTallies nD τ sig Unit)
    (h : ∀ g, 0 < O g () → ∃ x : Dev nD × Kind, g = kcell x ∧ r < rank (some x.2)) :
    (levAts L lv : sProp 𝕄) ⊢ MayWait (c : Thread nD τ) sl () O :=
  MayOwe.of_cut (L := L) (lev := lv) r (fun p hp => by rw [Finset.mem_singleton.mp hp, L_tc]; exact Finset.mem_singleton_self _)
    (fun g u hg => by obtain ⟨x, rfl, -⟩ := h g hg; exact Finset.mem_singleton_self _)
    (fun p hp => by rw [Finset.mem_singleton.mp hp]; exact hr)
    (fun g u hg => by obtain ⟨x, rfl, hx⟩ := h g hg; rw [lv_cell]; exact hx)

end Cert.Exchange

end
-- ==== Proof.Slots.lean ====
/-
# What the slots of the table hold

A chunk written into its slot, be it by a copy from another device or by a store, makes the slot agree with the table
of all devices' chunks; and reading a slot of that table gives the chunk back.
-/
module

public import proofs.«01_k».proof.Proof.Cells

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- An index of the slab of one slot, from an index of a chunk. -/
abbrev slab (i : S128x512.Idx) : S1x128x512.Idx := ix3 (n0 := 1) (n1 := 128) (n2 := 512) ⟨0, Nat.one_pos⟩ (i 0) (i 1)

/-- The chunk as the slab that a slot is. -/
def asSlab (w : S128x512.Idx → Elt F .fp8e4m3) : S1x128x512.Idx → Elt F .fp8e4m3 := fun j =>
  w (ix2 (n0 := 128) (n1 := 512) (j 1) (j 2))

theorem slot_emb_val (s : Dev nD) (j : S1x128x512.Idx) (a : Fin 3) :
    ((slotR s).emb j a).val = (![s.val, 0, 0] : Fin 3 → ℕ) a + (j a).val := by
  show (![s.val, 0, 0] : Fin 3 → ℕ) a + 1 * (j a).val = _
  rw [Nat.one_mul]

variable (ch : Dev nD → S128x512.Idx → Elt F .fp8e4m3)

theorem table_slot (s : Dev nD) (j : S1x128x512.Idx) : table ch ((slotR s).emb j) = asSlab (ch s) j := by
  unfold table asSlab
  have h0 : (j 0).val = 0 := by have : (j 0).val < 1 := (j 0).isLt; omega
  congr 1
  · congr 1
    show ((slotR s).emb j 0).val = s.val
    rw [slot_emb_val, h0]; rfl
  · funext a; apply Fin.ext
    match a with
    | 0 => show ((slotR s).emb j 1).val = (j 1).val; rw [slot_emb_val]; exact Nat.zero_add _
    | 1 => show ((slotR s).emb j 2).val = (j 2).val; rw [slot_emb_val]; exact Nat.zero_add _

/-- Reading a slot of the table. -/
theorem read_slot (s : Dev nD) : (commM.access (slotR s)).read (Elt F) (table ch) = asSlab (ch s) :=
  funext fun j => table_slot ch s j

/-- A copy of the chunk of device `s` into slot `s` of any table. -/
theorem landed_slot (s : Dev nD) (f : S16x128x512.Idx → Elt F .fp8e4m3) (i : S16x128x512.Idx) (hi : i ∈ slotSet s) :
    (slotM s).view.write (Elt F) f (mineM.view.read (Elt F) (ch s)) Finset.univ i = table ch i := by
  rw [← slotM_set] at hi
  obtain ⟨x, -, rfl⟩ := Finset.mem_map.mp hi
  rw [View.write_emb_of_mem _ _ (Finset.mem_univ _)]
  show ch s x = table ch ((slotR s).emb (Shape.reshapeEquiv _ x))
  rw [table_slot]
  obtain ⟨a, b, rfl⟩ : ∃ (a : Fin 128) (b : Fin 512), x = ix2 a b := ⟨x 0, x 1, eq_ix2 _⟩
  rw [reshapeEquiv_ix2_1ab]
  rfl

/-- A store of the chunk of device `s` into slot `s` of any table. -/
theorem stored_slot (s : Dev nD) (f : S16x128x512.Idx → Elt F .fp8e4m3) (w : S1x128x512.Idx → Elt F .fp8e4m3)
    (hw : w = asSlab (ch s)) (i : S16x128x512.Idx) (hi : i ∈ slotSet s) :
    (commM.access (slotR s)).write (Elt F) f w Finset.univ i = table ch i := by
  rw [← access_set] at hi
  obtain ⟨x, -, rfl⟩ := Finset.mem_map.mp hi
  rw [View.write_emb_of_mem _ _ (Finset.mem_univ _)]
  show w x = table ch ((slotR s).emb x)
  rw [table_slot, hw]

/-- The stored slab is the chunk. -/
theorem pay4_asSlab (v56 : FVec F S128x512 .bf16) (cst : F .bf16) :
    k0_pay4 (k0_pay2 v56 cst) = asSlab (k0_pay3 v56 cst) := by
  funext j
  obtain ⟨a, b, c, rfl⟩ : ∃ (a : Fin 1) (b : Fin 128) (c : Fin 512), j = ix3 a b c := ⟨j 0, j 1, j 2, eq_ix3 _⟩
  show shapeCast S1x128x512 (shapeCast S1x128x512 (k0_pay2 v56 cst) shapeCasts_S128x512_S1x128x512)
      shapeCasts_S1x128x512_S1x128x512 (ix3 a b c)
    = shapeCast S128x512 (k0_pay2 v56 cst) shapeCasts_S128x512_S128x512 (ix2 b c)
  rw [shapeCast_self, shapeCast_self]
  exact shapeCast_ab_1ab_apply _ _ _ _ _

theorem slot_disjoint {s s' : Dev nD} (h : s ≠ s') : Disjoint (slotSet s) (slotSet s') := by
  refine Rect.unit_disjoint (0 : Fin 3) ?_
  have : s.val ≠ s'.val := fun e => h (Fin.ext e)
  show s.val + 1 ≤ s'.val ∨ s'.val + 1 ≤ s.val
  omega

theorem slot_cover : (Finset.univ : Finset (Dev nD)).biUnion slotSet = Finset.univ := by
  ext i
  simp only [Finset.mem_biUnion, Finset.mem_univ, true_and, iff_true]
  refine ⟨⟨(i 0).val, (i 0).isLt⟩, Rect.mem_set_unit.mpr fun a => ?_⟩
  have h1 : (i 1).val < 128 := (i 1).isLt
  have h2 : (i 2).val < 512 := (i 2).isLt
  match a with
  | 0 => exact ⟨le_rfl, Nat.lt_succ_self _⟩
  | 1 => exact ⟨Nat.zero_le _, by show (i 1).val < 0 + 128; omega⟩
  | 2 => exact ⟨Nat.zero_le _, by show (i 2).val < 0 + 512; omega⟩

/-- The table is its sixteen slots. -/
theorem table_slots (c : Dev nD) (f : Buf (Elt F) ((c : Thread nD τ).loc cc0_scratch0)) :
    (((c : Thread nD τ).loc cc0_scratch0) ↦{fullShare} f : sProp 𝕄) = bigSep Finset.univ fun s : Dev nD => slotPts (F := F) c s f := by
  unfold slotPts
  rw [← pointsTo_biUnion (Val := Elt F) (ℓ := (c : Thread nD τ).loc cc0_scratch0) (Finset.univ : Finset (Dev nD)) slotSet
    (fun s _ s' _ h => slot_disjoint h), slot_cover]

/-- The device's chunk is the sixteen shares of it. -/
theorem mine_shares (c : Dev nD) : minePts ch c fullShare = bigSep Finset.univ fun j : Dev nD => minePts ch c (lent j) := by
  unfold minePts
  refine Eq.trans (ShareLeaves.pointsTo_leaves (ℓ := (c : Thread nD τ).loc cc0_scratch1) Finset.univ (ch c) 4 fullShare) ?_
  rfl

end Cert.Exchange

end
-- ==== Proof.Steps.lean ====
/-
# One turn of each of the four rounds of the exchange

Device `c` goes four times through all devices `n`: it signals them, it waits for their signal and copies its chunk to
them, it waits for their chunk, and it waits for its own copies to be read.  Each turn is skipped for `n = c`.  What is
left to do and what is already done is one product over the other devices, whose factor at `j` is of one kind before
turn `j` and of another after it (`phase`).  Each lemma below takes one such product from `n` to `n + 1`.
-/
module

public import proofs.«01_k».proof.Proof.Slots

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a piece of device `c`'s body. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Products over the other devices, part of whose factors are done -/

/-- The product over the devices other than `c` of `P` at those still to come and `P'` at those before `n`. -/
def phase (c : Dev nD) (P P' : Dev nD → sProp 𝕄) (n : ℕ) : sProp 𝕄 :=
  bigSep (Finset.univ.erase c) fun j => if j.val < n then P' j else P j

theorem phase_zero (c : Dev nD) (P P' : Dev nD → sProp 𝕄) : phase c P P' 0 = bigSep (Finset.univ.erase c) P := by
  unfold phase; exact bigSep_congr fun j _ => if_neg (Nat.not_lt_zero _)

theorem phase_end (c : Dev nD) (P P' : Dev nD → sProp 𝕄) : phase c P P' 16 = bigSep (Finset.univ.erase c) P' := by
  unfold phase; exact bigSep_congr fun j _ => if_pos j.isLt

theorem phase_self (c : Dev nD) (P P' : Dev nD → sProp 𝕄) : phase c P P' c.val = phase c P P' (c.val + 1) := by
  unfold phase
  refine bigSep_congr fun j hj => ?_
  have hne : j.val ≠ c.val := fun e => (Finset.mem_erase.mp hj).1 (Fin.ext e)
  by_cases h : j.val < c.val
  · rw [if_pos h, if_pos (by omega)]
  · rw [if_neg h, if_neg (by omega)]

/-- The factor at any other device, taken out. -/
theorem phase_at (c n : Dev nD) (h : n ≠ c) (P P' : Dev nD → sProp 𝕄) (m : ℕ) :
    phase c P P' m = iprop((if n.val < m then P' n else P n)
      ∗ bigSep ((Finset.univ.erase c).erase n) fun j => if j.val < m then P' j else P j) := by
  unfold phase
  exact bigSep_erase (Finset.mem_erase.mpr ⟨h, Finset.mem_univ n⟩)

theorem phase_others (c n : Dev nD) (P P' : Dev nD → sProp 𝕄) :
    (bigSep ((Finset.univ.erase c).erase n) fun j => if j.val < n.val then P' j else P j)
      = bigSep ((Finset.univ.erase c).erase n) fun j => if j.val < n.val + 1 then P' j else P j := by
  refine bigSep_congr fun j hj => ?_
  have hne : j.val ≠ n.val := fun e => (Finset.mem_erase.mp hj).1 (Fin.ext e)
  by_cases h : j.val < n.val
  · rw [if_pos h, if_pos (by omega)]
  · rw [if_neg h, if_neg (by omega)]

theorem phase_step (c n : Dev nD) (h : n ≠ c) (P P' : Dev nD → sProp 𝕄) :
    (phase c P P' n.val : sProp 𝕄) ⊢ iprop(P n ∗ (P' n -∗ phase c P P' (n.val + 1))) := by
  rw [phase_at c n h P P' n.val, phase_at c n h P P' (n.val + 1), if_neg (Nat.lt_irrefl _), if_pos (Nat.lt_succ_self _),
    phase_others]
  iintro ⟨HP, HR⟩
  isplitl [HP]; · iexact HP
  iintro HP'
  isplitl [HP'] <;> iassumption

/-- The factor at a device already done, borrowed. -/
theorem phase_done (c n : Dev nD) (h : n ≠ c) (P P' : Dev nD → sProp 𝕄) (m : ℕ) (hm : n.val < m) :
    (phase c P P' m : sProp 𝕄) ⊢ iprop(P' n ∗ (P' n -∗ phase c P P' m)) := by
  rw [phase_at c n h P P' m, if_pos hm]
  iintro ⟨HP, HR⟩
  isplitl [HP]; · iexact HP
  iintro HP'
  isplitl [HP'] <;> iassumption

/-! ## What everyone knows -/

variable (ch : Dev nD → S128x512.Idx → Elt F .fp8e4m3) (K : Dev nD × Kind → ℕ)

omit [FloatOps F] in
theorem factor_at {I : Type} [Fintype I] [DecidableEq I] (Φ : I → sProp 𝕄) (x : I) : (bigSep Finset.univ Φ : sProp 𝕄) ⊢ Φ x :=
  bigSep_elim (Finset.mem_univ x)

/-- Every cell's invariant and that its round 0 is reached, and the order of the cells. -/
def known : sProp 𝕄 :=
  iprop((bigSep Finset.univ fun x : Dev nD × Kind => iprop(cellInv ER (plan (F := F) ch) (K x) (kcell x) ∗ reached ER (kcell x) 0)) ∗ levAts L lv)

instance known_persistent : BI.Persistent (known (F := F) ch K) := by unfold known; infer_instance

theorem known_inv (x : Dev nD × Kind) : (known (F := F) ch K : sProp 𝕄) ⊢ cellInv ER (plan (F := F) ch) (K x) (kcell x) := by
  unfold known
  iintro ⟨H, -⟩
  ihave H' := (factor_at _ x) $$ H
  icases H' with ⟨H', -⟩
  iexact H'

theorem known_reached (x : Dev nD × Kind) : (known (F := F) ch K : sProp 𝕄) ⊢ reached ER (kcell x) 0 := by
  unfold known
  iintro ⟨H, -⟩
  ihave H' := (factor_at _ x) $$ H
  icases H' with ⟨-, H'⟩
  iexact H'

theorem known_lev : (known (F := F) ch K : sProp 𝕄) ⊢ levAts L lv := by
  unfold known
  iintro ⟨-, H⟩
  iexact H

theorem pay_rdy (c j : Dev nD) : pay ch c (some (.inl (0, j))) = iprop(∃ f, slotPts (F := F) j c f) := rfl
theorem pay_snd (c j : Dev nD) : pay ch c (some (.inl (1, j))) = minePts ch c (lent j) := rfl
theorem pay_rcv (c j : Dev nD) : pay ch c (some (.inl (2, j))) = slotPts c j (table ch) := rfl

theorem debtRdy_step (c n : Dev nD) (h : n ≠ c) :
    debtRdy c n.val = debtRdy c (n.val + 1) + tallyAt (kcell (n, .inl (0, c))) () 1 := by
  unfold debtRdy; rw [debt_step 0 1 c n h, add_assoc]

/-! ## The four rounds -/

/-- The signals: a token and a slot for each device to come. -/
def sigTodo (c j : Dev nD) : sProp 𝕄 := iprop(dutyTok ER (rdyCell j c) 0 () ∗ ∃ f, slotPts (F := F) c j f)
def sigs (c : Dev nD) (n : ℕ) : sProp 𝕄 :=
  iprop(phase c (sigTodo c) (fun _ => iprop(emp)) n ∗ ∃ W, owes (c : Thread nD τ) (debtRdy c n) W)

/-- The copies. -/
def cpyTodo (c j : Dev nD) : sProp 𝕄 :=
  iprop(atPos ER (rdyCell c j) 0 ∅ 0 ∗ cred (tallyAt (rdyCell c j) () 1) ∗ minePts ch c (lent j)
    ∗ dutyTok ER (sndCell c j) 0 () ∗ dutyTok ER (rcvCell j c) 0 ())
def cpyDone (c j : Dev nD) : sProp 𝕄 := iprop(atPos ER (rdyCell c j) 1 ∅ 0 ∗ cred (tallyAt (sndCell c j) () N))
def cpys (c : Dev nD) (n : ℕ) : sProp 𝕄 :=
  iprop(phase c (cpyTodo ch c) (cpyDone c) n ∗ ∃ W, owes (c : Thread nD τ) (debtRcv c n) W)

/-- The arrivals; with them, once it is there, the slot of the device's own chunk. -/
def arrTodo (c j : Dev nD) : sProp 𝕄 := iprop(atPos ER (rcvCell c j) 0 ∅ 0 ∗ cred (tallyAt (rcvCell c j) () N))
def arrDone (c j : Dev nD) : sProp 𝕄 := iprop(atPos ER (rcvCell c j) 1 ∅ 0 ∗ slotPts c j (table ch))
def arrs (c : Dev nD) (n : ℕ) : sProp 𝕄 :=
  iprop(phase c (arrTodo c) (arrDone ch c) n ∗ slotPts c c (table ch) ∗ ∃ W, owes (c : Thread nD τ) 0 W)

/-- The ends of the copies. -/
def endTodo (c j : Dev nD) : sProp 𝕄 := iprop(atPos ER (sndCell c j) 0 ∅ 0 ∗ cred (tallyAt (sndCell c j) () N))
def endDone (c j : Dev nD) : sProp 𝕄 := iprop(atPos ER (sndCell c j) 1 ∅ 0 ∗ minePts ch c (lent j))
def ends (c : Dev nD) (n : ℕ) : sProp 𝕄 :=
  iprop(phase c (endTodo c) (endDone ch c) n ∗ ∃ W, owes (c : Thread nD τ) 0 W)

theorem sigs_self (c : Dev nD) : sigs (F := F) c c.val = sigs c (c.val + 1) := by
  unfold sigs debtRdy; rw [phase_self, debt_self]
theorem cpys_self (c : Dev nD) : cpys ch c c.val = cpys ch c (c.val + 1) := by
  unfold cpys debtRcv; rw [phase_self, debt_self]
theorem arrs_self (c : Dev nD) : arrs ch c c.val = arrs ch c (c.val + 1) := by
  unfold arrs; rw [phase_self]
theorem ends_self (c : Dev nD) : ends ch c c.val = ends ch c (c.val + 1) := by
  unfold ends; rw [phase_self]

/-- Device `c` signals device `n`, handing over its slot `n`. -/
theorem sig_op {α : Type} {Q : α → sProp 𝕄} (c n d : Dev nD) (h : n ≠ c) (hd : d = n) (off : Fin 1 → ℕ) (hoff : off = ![c.val])
    (inb : ∀ a, off a + S1.size a ≤ S16.size a) (k : PUnit → Prog (TpuEff nD τ sig (Elt F) Λ₀ .tc) α) :
    iprop(known ch K ∗ sigs c n.val ∗ (sigs c (n.val + 1) -∗ wpc c (k ⟨⟩) Q))
      ⊢ wpc c (.op (.semSignal ((d, .tc) : Thread nD τ) (semAt cc0_scratch4 off inb) (1#32 : BitVec 32).toInt) k) Q := by
  subst hd hoff
  iintro ⟨#HK, Hs, Hk⟩
  unfold sigs
  icases Hs with ⟨Hph, ⟨%W, HO⟩⟩
  ihave Hp := (phase_step c d h (sigTodo c) (fun _ => iprop(emp))) $$ Hph
  unfold sigTodo
  icases Hp with ⟨⟨Htok, ⟨%f, Hslot⟩⟩, Hback⟩
  iapply (Rounds.wp_signal 𝒱₀ ER (plan ch) (c : Thread nD τ) none (dst := (d : Thread nD τ)) (κ := K (d, .inl (0, c)))
      (d := ()) (by show () ∈ (plan ch).duties (kcell (d, .inl (0, c))) 0; rw [duties_used ch d _ (used_of_ne 0 (Ne.symm h))]; exact Finset.mem_singleton_self _)
      (amount_cell ch d (.inl (0, c)) ()) () (O₀ := debtRdy c d.val) (debtRdy c (d.val + 1)) (debtRdy_step c d h))
    $$ [HO Htok Hslot]
  · isplitr; · iapply (known_inv ch K (d, .inl (0, c))); iexact HK
    isplitl [HO]; · iexact HO
    isplitl [Htok]; · iexact Htok
    isplitl [Hslot]
    · iapply (Entails.of_eq (payload_cell ch d (.inl (0, c)) ()).symm)
      iapply (Entails.of_eq (pay_rdy ch d c).symm)
      iexists f; iexact Hslot
    iapply (known_reached ch K (d, .inl (0, c))); iexact HK
  iintro HO
  iapply Hk
  isplitl [Hback]; · iapply Hback; iempintro
  iexists W; iexact HO

/-- Nothing but the copies to come is owed while waiting for a ready signal. -/
theorem may_rdy (c n : Dev nD) (m : ℕ) :
    (levAts L lv : sProp 𝕄) ⊢ MayWait (c : Thread nD τ) (csem (.inl (0, n))) () (debtRcv c m) :=
  mayWait_of c _ 2 (by rw [dec_csem]; exact le_rfl) _ fun g hg => by
    obtain ⟨j, rfl⟩ := debt_pos hg
    exact ⟨_, rfl, Nat.lt_succ_self 2⟩

/-- Device `c` waits for the signal of device `n` and copies its chunk into slot `c` of the table of device `n`. -/
theorem cpy_op {α : Type} {Q : α → sProp 𝕄} (c n d : Dev nD) (h : n ≠ c) (hd : d = n)
    (o1 o2 o3 : Fin 1 → ℕ) (o4 : Fin 3 → ℕ) (h1 : o1 = ![n.val]) (h2 : o2 = ![n.val]) (h3 : o3 = ![c.val]) (h4 : o4 = ![c.val, 0, 0])
    (i1 : ∀ a, o1 a + S1.size a ≤ S16.size a) (i2 : ∀ a, o2 a + S1.size a ≤ S16.size a) (i3 : ∀ a, o3 a + S1.size a ≤ S16.size a)
    (i4 : ∀ a, o4 a + S1x128x512.size a ≤ S16x128x512.size a)
    {hsc} {hsrc} {hdst} {hsem}
    (k : PUnit → Prog (TpuEff nD τ sig (Elt F) Λ₀ .tc) α) :
    iprop(known ch K ∗ cpys ch c n.val ∗ (cpys ch c (n.val + 1) -∗ wpc c (k ⟨⟩) Q))
      ⊢ wpc c (.op (.semWait (semAt cc0_scratch4 o1 i1) (1#32 : BitVec 32).toInt) fun _ =>
          .op (.enqueueDma mineM (.remote (Dev.tc d)
            ((commM.slice (Rect.unit (s := S16x128x512) o4 S1x128x512.size i4) (fun _ => rfl)).squeeze S128x512 squeezes_S1x128x512_S128x512)
            (.dma (semAt cc0_scratch2 o2 i2)) hsc) (.dma (semAt cc0_scratch3 o3 i3)) hsrc hdst hsem) k) Q := by
  subst hd h1 h2 h3 h4
  iintro ⟨#HK, Hs, Hk⟩
  unfold cpys
  icases Hs with ⟨Hph, ⟨%W, HO⟩⟩
  ihave Hp := (phase_step c d h (cpyTodo ch c) (cpyDone c)) $$ Hph
  unfold cpyTodo
  icases Hp with ⟨⟨Hat, Hcr, Hmine, Hts, Htr⟩, Hback⟩
  iapply (Rounds.wp_wait_rest_token 𝒱₀ ER (plan ch) (c : Thread nD τ) none (κ := K (c, .inl (0, d)))
      (wpE_semWait_eq 𝒱₀ (c : Thread nD τ) none Set.univ) (Set.mem_univ _) () (O := debtRcv c d.val) (W := W) (R := 0) (m := 0) (T := ∅)
      (by rw [show (plan ch).expect ((c : Thread nD τ), SemLoc.reg (semAt cc0_scratch4 ![d.val] i1)) 0 = 1 from
            expect_cell ch c (.inl (0, d)) (used_of_ne 0 h)]; decide)) $$ [Hcr HO Hat]
  · isplitr; · iapply (known_inv ch K (c, .inl (0, d))); iexact HK
    isplitl [Hcr]; · iexact Hcr
    isplitl [HO]; · iexact HO
    isplitr; · iapply (may_rdy c d d.val); iapply (known_lev ch K); iexact HK
    iexact Hat
  iintro ⟨HO, Hat, -, Hpay⟩
  ihave Hp := (Entails.of_eq (rest_cell ch c (.inl (0, d)) (used_of_ne 0 h))) $$ Hpay
  ihave Hp := (Entails.of_eq (pay_rdy ch c d)) $$ Hp
  icases Hp with ⟨%fn, Hslot⟩
  have hm : (minePts ch c (lent d) : sProp 𝕄)
      = ((mineM.view.loc (c : Thread nD τ)) ↦[mineM.view.set]{lent d} (ch c : Buf (Elt F) (mineM.view.loc (c : Thread nD τ)))) := by
    unfold minePts; rw [View.set_whole]
  have hs : ∀ f, (slotPts d c f : sProp 𝕄)
      = (((slotM c).view.loc (d : Thread nD τ)) ↦[(slotM c).view.set]{fullShare} (f : Buf (Elt F) ((slotM c).view.loc (d : Thread nD τ)))) := by
    intro f; unfold slotPts; rw [slotM_set]
  ihave Hmine' := (Entails.of_eq hm) $$ Hmine
  ihave Hslot' := (Entails.of_eq (hs fn)) $$ Hslot
  iapply (Rounds.wp_send_pointsTo 𝒱₀ ER (plan ch) (c : Thread nD τ) none (c' := (d : Thread nD τ)) (dst := slotM c) (κ₁ := K (c, .inl (1, d))) (κ₂ := K (d, .inl (2, c)))
    (r₁ := 0) (r₂ := 0) (d₁ := ()) (d₂ := ()) (fd := fn)
    (by show () ∈ (plan ch).duties (kcell (c, .inl (1, d))) 0; rw [duties_used ch c _ (used_of_ne 1 h)]; exact Finset.mem_singleton_self _)
    (by show () ∈ (plan ch).duties (kcell (d, .inl (2, c))) 0; rw [duties_used ch d _ (used_of_ne 2 (Ne.symm h))]; exact Finset.mem_singleton_self _)
    () () N rfl (amount_cell ch c (.inl (1, d)) ()) (amount_cell ch d (.inl (2, c)) ()) (debtRcv c (d.val + 1)) (debt_step 2 N c d h)
    (W := insert (SemLoc.reg (semAt cc0_scratch4 ![d.val] i1), ()) W)
    (by refine BIBase.Entails.trans ?_ (Entails.of_eq (payload_cell ch c (.inl (1, d)) ()).symm); exact Entails.of_eq (hm.symm.trans (pay_snd ch c d).symm))
    (by
      refine BIBase.Entails.trans ?_ (Entails.of_eq (payload_cell ch d (.inl (2, c)) ()).symm)
      rw [pay_rcv, hs]
      exact Entails.of_eq (pointsTo_congr fun i hi => landed_slot ch c fn i (by rw [← slotM_set]; exact hi))))
    $$ [Hmine' Hslot' HO Hts Htr]
  · isplitr; · iapply (known_inv ch K (c, .inl (1, d))); iexact HK
    isplitr; · iapply (known_inv ch K (d, .inl (2, c))); iexact HK
    isplitl [Hmine']; · iexact Hmine'
    isplitl [Hslot']; · iexact Hslot'
    isplitl [HO]; · iexact HO
    isplitl [Hts]; · iexact Hts
    isplitr; · iapply (known_reached ch K (c, .inl (1, d))); iexact HK
    isplitl [Htr]; · iexact Htr
    iapply (known_reached ch K (d, .inl (2, c))); iexact HK
  iintro ⟨Hcs, HO⟩
  iapply Hk
  isplitl [Hback Hat Hcs]
  · iapply Hback
    unfold cpyDone
    isplitl [Hat] <;> iassumption
  iexists _; iexact HO

/-- Device `c` waits for the chunk of device `n`. -/
theorem arr_op {α : Type} {Q : α → sProp 𝕄} (c n : Dev nD) (h : n ≠ c) (o1 : Fin 1 → ℕ) (o2 : Fin 3 → ℕ) (h1 : o1 = ![n.val])
    (i1 : ∀ a, o1 a + S1.size a ≤ S16.size a) (i2 : ∀ a, o2 a + S1x128x512.size a ≤ S16x128x512.size a) {hsrc} {hdst}
    (k : PUnit → Prog (TpuEff nD τ sig (Elt F) Λ₀ .tc) α) :
    iprop(known ch K ∗ arrs ch c n.val ∗ (arrs ch c (n.val + 1) -∗ wpc c (k ⟨⟩) Q))
      ⊢ wpc c (.op (.waitDma2 (semAt cc0_scratch3 o1 i1) mineM
            ((commM.slice (Rect.unit (s := S16x128x512) o2 S1x128x512.size i2) (fun _ => rfl)).squeeze S128x512 squeezes_S1x128x512_S128x512) hsrc hdst) k) Q := by
  subst h1
  iintro ⟨#HK, Hs, Hk⟩
  unfold arrs
  icases Hs with ⟨Hph, Hown, ⟨%W, HO⟩⟩
  ihave Hp := (phase_step c n h (arrTodo c) (arrDone ch c)) $$ Hph
  unfold arrTodo
  icases Hp with ⟨⟨Hat, Hcr⟩, Hback⟩
  iapply (Rounds.wp_wait_rest_token 𝒱₀ ER (plan ch) (c : Thread nD τ) none (κ := K (c, .inl (2, n)))
      (wpE_waitDma2_eq 𝒱₀ (c : Thread nD τ) none Set.univ) (Set.mem_univ _) () (O := 0) (W := W) (R := 0) (m := 0) (T := ∅)
      (by rw [Nat.zero_add]; exact (expect_cell ch c (.inl (2, n)) (used_of_ne 2 h)).symm)) $$ [Hcr HO Hat]
  · isplitr; · iapply (known_inv ch K (c, .inl (2, n))); iexact HK
    isplitl [Hcr]; · iexact Hcr
    isplitl [HO]; · iexact HO
    isplitr; · rw [MayWait_zero]; iempintro
    iexact Hat
  iintro ⟨HO, Hat, -, Hpay⟩
  ihave Hp := (Entails.of_eq (rest_cell ch c (.inl (2, n)) (used_of_ne 2 h))) $$ Hpay
  ihave Hp := (Entails.of_eq (pay_rcv ch c n)) $$ Hp
  iapply Hk
  isplitl [Hback Hat Hp]
  · iapply Hback
    unfold arrDone
    isplitl [Hat] <;> iassumption
  isplitl [Hown]; · iexact Hown
  iexists _; iexact HO

/-- Device `c` waits until its copy to device `n` has been read. -/
theorem end_op {α : Type} {Q : α → sProp 𝕄} (c n : Dev nD) (h : n ≠ c) (o1 : Fin 1 → ℕ) (o2 : Fin 3 → ℕ) (h1 : o1 = ![n.val])
    (i1 : ∀ a, o1 a + S1.size a ≤ S16.size a) (i2 : ∀ a, o2 a + S1x128x512.size a ≤ S16x128x512.size a) {hsrc} {hdst}
    (k : PUnit → Prog (TpuEff nD τ sig (Elt F) Λ₀ .tc) α) :
    iprop(known ch K ∗ ends ch c n.val ∗ (ends ch c (n.val + 1) -∗ wpc c (k ⟨⟩) Q))
      ⊢ wpc c (.op (.waitDma2 (semAt cc0_scratch2 o1 i1)
            ((commM.slice (Rect.unit (s := S16x128x512) o2 S1x128x512.size i2) (fun _ => rfl)).squeeze S128x512 squeezes_S1x128x512_S128x512) mineM hsrc hdst) k) Q := by
  subst h1
  iintro ⟨#HK, Hs, Hk⟩
  unfold ends
  icases Hs with ⟨Hph, ⟨%W, HO⟩⟩
  ihave Hp := (phase_step c n h (endTodo c) (endDone ch c)) $$ Hph
  unfold endTodo
  icases Hp with ⟨⟨Hat, Hcr⟩, Hback⟩
  iapply (Rounds.wp_wait_rest_token 𝒱₀ ER (plan ch) (c : Thread nD τ) none (κ := K (c, .inl (1, n)))
      (wpE_waitDma2_eq 𝒱₀ (c : Thread nD τ) none Set.univ) (Set.mem_univ _) () (O := 0) (W := W) (R := 0) (m := 0) (T := ∅)
      (by rw [Nat.zero_add]; exact (expect_cell ch c (.inl (1, n)) (used_of_ne 1 h)).symm)) $$ [Hcr HO Hat]
  · isplitr; · iapply (known_inv ch K (c, .inl (1, n))); iexact HK
    isplitl [Hcr]; · iexact Hcr
    isplitl [HO]; · iexact HO
    isplitr; · rw [MayWait_zero]; iempintro
    iexact Hat
  iintro ⟨HO, Hat, -, Hpay⟩
  ihave Hp := (Entails.of_eq (rest_cell ch c (.inl (1, n)) (used_of_ne 1 h))) $$ Hpay
  ihave Hp := (Entails.of_eq (pay_snd ch c n)) $$ Hp
  iapply Hk
  isplitl [Hback Hat Hp]
  · iapply Hback
    unfold endDone
    isplitl [Hat] <;> iassumption
  iexists _; iexact HO

end Cert.Exchange

end
-- ==== Proof.Turns.lean ====
/-
# The turns as the kernel writes them

Every turn of a round is guarded by the comparison of the device's number with the turn's: it is taken for the other
devices and skipped for the device itself.  Besides the turns: reading a slot whose chunk is there, and reading and
writing a whole buffer.
-/
module

public import proofs.«01_k».proof.Proof.Steps

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The device's number as the kernel computes it. -/
abbrev me (c : Dev nD) : BitVec 32 := Scalar.remsi (Scalar.divsi (Dev.word c) 1#32) 16#32

/-- The guard of the turn for the device of number `b`. -/
abbrev guard (c : Dev nD) (b : BitVec 32) : BitVec 1 := Scalar.cmpi .ne (Scalar.extui (Scalar.cmpi .ne (me c) b)) 0#32

set_option maxRecDepth 65536 in
theorem guard_iff (n c : Dev nD) : guard c (BitVec.ofNat 32 n.val) = 1#1 ↔ n ≠ c := by revert n c; decide +kernel

variable (ch : Dev nD → S128x512.Idx → Elt F .fp8e4m3) (K : Dev nD × Kind → ℕ)

/-- A guarded piece: skipped for the device itself, where what it needs is what it leaves. -/
theorem turn {α : Type} {Q : α → sProp 𝕄} (c n : Dev nD) (A : ℕ → sProp 𝕄) (hself : A c.val = A (c.val + 1))
    (cond : BitVec 1) (hc : cond = 1#1 ↔ n ≠ c) (m : ℕ) (hm : n.val = m)
    (p : cond = 1#1 → Prog (TpuEff nD τ sig (Elt F) Λ₀ .tc) α) (k : Prog (TpuEff nD τ sig (Elt F) Λ₀ .tc) α)
    (hp : ∀ h, n ≠ c → iprop(known ch K ∗ A n.val ∗ (A (n.val + 1) -∗ wpc c k Q)) ⊢ wpc c (p h) Q)
    {R : sProp 𝕄} (hk : iprop(known ch K ∗ A (m + 1) ∗ R) ⊢ wpc c k Q) :
    iprop(known ch K ∗ A m ∗ R) ⊢ wpc c (if h : cond = 1#1 then p h else k) Q := by
  subst hm
  by_cases h : cond = 1#1
  · rw [dif_pos h]
    iintro ⟨#HK, HA, HR⟩
    iapply (hp h (hc.mp h))
    isplitr; · iexact HK
    isplitl [HA]; · iexact HA
    iintro HA
    iapply hk
    isplitr; · iexact HK
    isplitl [HA] <;> iassumption
  · rw [dif_neg h]
    have hn : n = c := not_not.mp fun hn => h (hc.mpr hn)
    subst hn
    rw [hself]
    exact hk

theorem sig_turn {α : Type} {Q : α → sProp 𝕄} (c n : Dev nD) (m : ℕ) (hm : n.val = m) (cond : BitVec 1) (hc : cond = 1#1 ↔ n ≠ c)
    (d : cond = 1#1 → Dev nD) (hd : ∀ h, d h = n) (off : Fin 1 → ℕ) (hoff : off = ![c.val])
    (inb : cond = 1#1 → ∀ a, off a + S1.size a ≤ S16.size a) (k : Prog (TpuEff nD τ sig (Elt F) Λ₀ .tc) α)
    {R : sProp 𝕄} (hk : iprop(known ch K ∗ sigs c (m + 1) ∗ R) ⊢ wpc c k Q) :
    iprop(known ch K ∗ sigs c m ∗ R)
      ⊢ wpc c (if h : cond = 1#1 then
          .op (.semSignal ((d h, .tc) : Thread nD τ) (semAt cc0_scratch4 off (inb h)) (1#32 : BitVec 32).toInt) fun _ => k
        else k) Q :=
  turn ch K c n (sigs c) (sigs_self c) cond hc m hm _ k (fun h hn => sig_op ch K c n (d h) hn (hd h) off hoff (inb h) fun _ => k) hk

theorem cpy_turn {α : Type} {Q : α → sProp 𝕄} (c n : Dev nD) (m : ℕ) (hm : n.val = m) (cond : BitVec 1) (hc : cond = 1#1 ↔ n ≠ c)
    (d : cond = 1#1 → Dev nD) (hd : ∀ h, d h = n)
    (o1 o2 o3 : Fin 1 → ℕ) (o4 : Fin 3 → ℕ) (h1 : o1 = ![n.val]) (h2 : o2 = ![n.val]) (h3 : o3 = ![c.val]) (h4 : o4 = ![c.val, 0, 0])
    (i1 : ∀ a, o1 a + S1.size a ≤ S16.size a) (i2 : ∀ a, o2 a + S1.size a ≤ S16.size a) (i3 : cond = 1#1 → ∀ a, o3 a + S1.size a ≤ S16.size a)
    (i4 : cond = 1#1 → ∀ a, o4 a + S1x128x512.size a ≤ S16x128x512.size a)
    {hsc : ∀ h, ((commM.slice (Rect.unit (s := S16x128x512) o4 S1x128x512.size (i4 h)) (fun _ => rfl)).squeeze S128x512 squeezes_S1x128x512_S128x512).view.ref.isScScratch = false}
    {hsrc : cond = 1#1 → mineM.view.WordExact}
    {hdst : ∀ h, ((commM.slice (Rect.unit (s := S16x128x512) o4 S1x128x512.size (i4 h)) (fun _ => rfl)).squeeze S128x512 squeezes_S1x128x512_S128x512).view.WordExact}
    {hsem : ∀ h, DmaTarget.Typed .vmem (.dma (semAt cc0_scratch3 o3 (i3 h))) (.remote (Dev.tc (d h))
            ((commM.slice (Rect.unit (s := S16x128x512) o4 S1x128x512.size (i4 h)) (fun _ => rfl)).squeeze S128x512 squeezes_S1x128x512_S128x512)
            (.dma (semAt cc0_scratch2 o2 i2)) (hsc h))}
    (k : Prog (TpuEff nD τ sig (Elt F) Λ₀ .tc) α)
    {R : sProp 𝕄} (hk : iprop(known ch K ∗ cpys ch c (m + 1) ∗ R) ⊢ wpc c k Q) :
    iprop(known ch K ∗ cpys ch c m ∗ R)
      ⊢ wpc c (if h : cond = 1#1 then
          .op (.semWait (semAt cc0_scratch4 o1 i1) (1#32 : BitVec 32).toInt) fun _ =>
          .op (.enqueueDma mineM (.remote (Dev.tc (d h))
            ((commM.slice (Rect.unit (s := S16x128x512) o4 S1x128x512.size (i4 h)) (fun _ => rfl)).squeeze S128x512 squeezes_S1x128x512_S128x512)
            (.dma (semAt cc0_scratch2 o2 i2)) (hsc h)) (.dma (semAt cc0_scratch3 o3 (i3 h))) (hsrc h) (hdst h) (hsem h)) fun _ => k
        else k) Q :=
  turn ch K c n (cpys ch c) (cpys_self ch c) cond hc m hm _ k (fun h hn =>
    cpy_op ch K c n (d h) hn (hd h) o1 o2 o3 o4 h1 h2 h3 h4 i1 i2 (i3 h) (i4 h) fun _ => k) hk

theorem arr_turn {α : Type} {Q : α → sProp 𝕄} (c n : Dev nD) (m : ℕ) (hm : n.val = m) (cond : BitVec 1) (hc : cond = 1#1 ↔ n ≠ c)
    (o1 : Fin 1 → ℕ) (o2 : Fin 3 → ℕ) (h1 : o1 = ![n.val])
    (i1 : ∀ a, o1 a + S1.size a ≤ S16.size a) (i2 : ∀ a, o2 a + S1x128x512.size a ≤ S16x128x512.size a)
    {hsrc : mineM.view.WordExact}
    {hdst : ((commM.slice (Rect.unit (s := S16x128x512) o2 S1x128x512.size i2) (fun _ => rfl)).squeeze S128x512 squeezes_S1x128x512_S128x512).view.WordExact}
    (k : Prog (TpuEff nD τ sig (Elt F) Λ₀ .tc) α)
    {R : sProp 𝕄} (hk : iprop(known ch K ∗ arrs ch c (m + 1) ∗ R) ⊢ wpc c k Q) :
    iprop(known ch K ∗ arrs ch c m ∗ R)
      ⊢ wpc c (if h : cond = 1#1 then
          .op (.waitDma2 (semAt cc0_scratch3 o1 i1) mineM
            ((commM.slice (Rect.unit (s := S16x128x512) o2 S1x128x512.size i2) (fun _ => rfl)).squeeze S128x512 squeezes_S1x128x512_S128x512) hsrc hdst) fun _ => k
        else k) Q :=
  turn ch K c n (arrs ch c) (arrs_self ch c) cond hc m hm _ k (fun h hn => arr_op ch K c n hn o1 o2 h1 i1 i2 fun _ => k) hk

theorem end_turn {α : Type} {Q : α → sProp 𝕄} (c n : Dev nD) (m : ℕ) (hm : n.val = m) (cond : BitVec 1) (hc : cond = 1#1 ↔ n ≠ c)
    (o1 : Fin 1 → ℕ) (o2 : Fin 3 → ℕ) (h1 : o1 = ![n.val])
    (i1 : ∀ a, o1 a + S1.size a ≤ S16.size a) (i2 : ∀ a, o2 a + S1x128x512.size a ≤ S16x128x512.size a)
    {hsrc : ((commM.slice (Rect.unit (s := S16x128x512) o2 S1x128x512.size i2) (fun _ => rfl)).squeeze S128x512 squeezes_S1x128x512_S128x512).view.WordExact}
    {hdst : mineM.view.WordExact}
    (k : Prog (TpuEff nD τ sig (Elt F) Λ₀ .tc) α)
    {R : sProp 𝕄} (hk : iprop(known ch K ∗ ends ch c (m + 1) ∗ R) ⊢ wpc c k Q) :
    iprop(known ch K ∗ ends ch c m ∗ R)
      ⊢ wpc c (if h : cond = 1#1 then
          .op (.waitDma2 (semAt cc0_scratch2 o1 i1)
            ((commM.slice (Rect.unit (s := S16x128x512) o2 S1x128x512.size i2) (fun _ => rfl)).squeeze S128x512 squeezes_S1x128x512_S128x512) mineM hsrc hdst) fun _ => k
        else k) Q :=
  turn ch K c n (ends ch c) (ends_self ch c) cond hc m hm _ k (fun h hn => end_op ch K c n hn o1 o2 h1 i1 i2 fun _ => k) hk

/-! ## Reading a slot -/

/-- A slot whose chunk is there, taken out of the table for a moment. -/
theorem arrs_slot (c n : Dev nD) (m : ℕ) (hm : n.val < m) :
    (arrs ch c m : sProp 𝕄) ⊢ iprop(slotPts c n (table ch) ∗ (slotPts c n (table ch) -∗ arrs ch c m)) := by
  unfold arrs
  iintro ⟨Hph, Hown, HW⟩
  by_cases h : n = c
  · subst h
    isplitl [Hown]; · iexact Hown
    iintro Hown
    isplitl [Hph]; · iexact Hph
    isplitl [Hown] <;> iassumption
  · ihave Hp := (phase_done c n h (arrTodo c) (arrDone ch c) m hm) $$ Hph
    unfold arrDone
    icases Hp with ⟨⟨Hat, Hsl⟩, Hback⟩
    isplitl [Hsl]; · iexact Hsl
    iintro Hsl
    isplitl [Hback Hat Hsl]
    · iapply Hback
      isplitl [Hat] <;> iassumption
    isplitl [Hown] <;> iassumption

theorem slot_load {α : Type} {Q : α → sProp 𝕄} (c n : Dev nD) (m : ℕ) (hm : n.val < m) (off : Fin 3 → ℕ) (hoff : off = ![n.val, 0, 0])
    (inb : ∀ a, off a + S1x128x512.size a ≤ S16x128x512.size a)
    {hl : commM.view.LoadsAt (Rect.unit (s := S16x128x512) off S1x128x512.size inb).toLoadRect}
    (k : (S1x128x512.Idx → Elt F .fp8e4m3) → Prog (TpuEff nD τ sig (Elt F) Λ₀ .tc) α)
    {R : sProp 𝕄} (hk : iprop(known ch K ∗ arrs ch c m ∗ R) ⊢ wpc c (k (asSlab (ch n))) Q) :
    iprop(known ch K ∗ arrs ch c m ∗ R)
      ⊢ wpc c (.op (.load commM (Rect.unit (s := S16x128x512) off S1x128x512.size inb).toLoadRect hl) k) Q := by
  subst hoff
  iintro ⟨HK, HA, HR⟩
  ihave Hp := (arrs_slot ch c n m hm) $$ HA
  icases Hp with ⟨Hsl, Hback⟩
  unfold slotPts
  iapply (wp_load_rect 𝒱₀ (c : Thread nD τ) none Set.univ (m := commM) (r := slotR n) (S := slotSet n) (access_set n).subset) $$ Hsl
  iintro Hsl
  rw [read_slot]
  iapply hk
  isplitl [HK]; · iexact HK
  isplitl [Hback Hsl]
  · iapply Hback; iexact Hsl
  iexact HR

end Cert.Exchange

end
-- ==== Proof.Between.lean ====
/-
# Between the rounds

What a device holds at the start of its run, and how what one round leaves is arranged for the next: the table is cut
into slots for the signals, the chunk into shares for the copies, the own slot joins the arrivals, and at the end every
semaphore of the device is back at zero with the table and the chunk whole again.
-/
module

public import proofs.«01_k».proof.Proof.Turns

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ch : Dev nD → S128x512.Idx → Elt F .fp8e4m3) (K : Dev nD × Kind → ℕ)

/-! ## The start -/

/-- What the barrier takes. -/
def barTools (c : Dev nD) : sProp 𝕄 :=
  iprop(atPos ER (barCell c) 0 ∅ 0 ∗ dutyTok ER (barCell c) 0 () ∗ cred (tallyAt (barCell c) () 1))

/-- What a copy to device `j` takes besides the share of the chunk. -/
def cpyTools (c j : Dev nD) : sProp 𝕄 :=
  iprop(atPos ER (rdyCell c j) 0 ∅ 0 ∗ cred (tallyAt (rdyCell c j) () 1) ∗ dutyTok ER (sndCell c j) 0 () ∗ dutyTok ER (rcvCell j c) 0 ())

/-- The cells of the device whose partner is the device itself. -/
def idle (c : Dev nD) : sProp 𝕄 :=
  iprop(atPos ER (rdyCell c c) 0 ∅ 0 ∗ atPos ER (sndCell c c) 0 ∅ 0 ∗ atPos ER (rcvCell c c) 0 ∅ 0)

/-- What device `c` starts its run with, beside what everyone knows. -/
def tools (c : Dev nD) : sProp 𝕄 :=
  iprop(barTools c ∗ bigSep (Finset.univ.erase c) (fun j => dutyTok ER (rdyCell j c) 0 ())
    ∗ bigSep (Finset.univ.erase c) (cpyTools c) ∗ bigSep (Finset.univ.erase c) (arrTodo c)
    ∗ bigSep (Finset.univ.erase c) (fun j => atPos ER (sndCell c j) 0 ∅ 0) ∗ idle c)

theorem may_bar (c : Dev nD) : (levAts L lv : sProp 𝕄) ⊢ MayWait (c : Thread nD τ) (csem (.inr ())) () (debtRdy c 0) :=
  mayWait_of c _ 1 (by rw [dec_csem]; exact le_rfl) _ fun g hg => by
    unfold debtRdy at hg
    rw [Pi.add_apply, Finsupp.add_apply] at hg
    rcases Nat.eq_zero_or_pos (debtRcv c 0 g ()) with h0 | h0
    · rw [h0, Nat.zero_add] at hg
      obtain ⟨j, rfl⟩ := debt_pos hg
      exact ⟨_, rfl, Nat.lt_succ_self 1⟩
    · obtain ⟨j, rfl⟩ := debt_pos h0
      exact ⟨_, rfl, Nat.lt_of_lt_of_le (Nat.lt_succ_self 1) (Nat.le_succ 2)⟩

/-- Device `c` raises its own barrier and waits for it. -/
theorem bar_op {α : Type} {Q : α → sProp 𝕄} (c : Dev nD) (k : Prog (TpuEff nD τ sig (Elt F) Λ₀ .tc) α) {R : sProp 𝕄}
    (hk : iprop(known ch K ∗ (∃ W, owes (c : Thread nD τ) (debtRdy c 0) W) ∗ atPos ER (barCell c) 1 ∅ 0 ∗ R) ⊢ wpc c k Q) :
    iprop(known ch K ∗ barTools c ∗ (∃ W, owes (c : Thread nD τ) (O₀ c) W) ∗ R)
      ⊢ wpc c (.op (.semSignal ((c, .tc) : Thread nD τ) barS (1#32 : BitVec 32).toInt) fun _ =>
          .op (.semWait barS (1#32 : BitVec 32).toInt) fun _ => k) Q := by
  unfold barTools
  iintro ⟨#HK, ⟨Hat, Htok, Hcr⟩, ⟨%W, HO⟩, HR⟩
  iapply (Rounds.wp_signal 𝒱₀ ER (plan ch) (c : Thread nD τ) none (dst := (c : Thread nD τ)) (κ := K (c, .inr ()))
      (d := ()) (by show () ∈ (plan ch).duties (kcell (c, .inr ())) 0; rw [duties_used ch c _ rfl]; exact Finset.mem_singleton_self _)
      (amount_cell ch c (.inr ()) ()) () (O₀ := O₀ c) (debtRdy c 0) rfl)
    $$ [HO Htok]
  · isplitr; · iapply (known_inv ch K (c, .inr ())); iexact HK
    isplitl [HO]; · iexact HO
    isplitl [Htok]; · iexact Htok
    isplitr
    · iapply (Entails.of_eq (payload_cell ch c (.inr ()) ()).symm)
      unfold pay
      iempintro
    iapply (known_reached ch K (c, .inr ())); iexact HK
  iintro HO
  iapply (Rounds.wp_wait_rest_token 𝒱₀ ER (plan ch) (c : Thread nD τ) none (κ := K (c, .inr ()))
      (wpE_semWait_eq 𝒱₀ (c : Thread nD τ) none Set.univ) (Set.mem_univ _) () (O := debtRdy c 0) (W := W) (R := 0) (m := 0) (T := ∅)
      (by rw [show (plan ch).expect ((c : Thread nD τ), SemLoc.reg barS) 0 = 1 from expect_cell ch c (.inr ()) rfl]; decide)) $$ [Hcr HO Hat]
  · isplitr; · iapply (known_inv ch K (c, .inr ())); iexact HK
    isplitl [Hcr]; · iexact Hcr
    isplitl [HO]; · iexact HO
    isplitr; · iapply (may_bar c); iapply (known_lev ch K); iexact HK
    iexact Hat
  iintro ⟨HO, Hat, -, -⟩
  iapply hk
  isplitr; · iexact HK
  isplitl [HO]; · iexists _; iexact HO
  isplitl [Hat] <;> iassumption

/-! ## From one round to the next -/

/-- Two products over the same devices, joined device by device. -/
theorem join_each (s : Finset (Dev nD)) {A B D : Dev nD → sProp 𝕄} (h : ∀ j, iprop(A j ∗ B j) ⊢ D j) :
    iprop(bigSep s A ∗ bigSep s B) ⊢ bigSep s D := by
  rw [← bigSep_sep']
  exact bigSep_mono fun j _ => h j

/-- The table cut into its slots. -/
theorem sigs_start (c : Dev nD) :
    iprop((∃ f, ((c : Thread nD τ).loc cc0_scratch0) ↦{fullShare} (f : Buf (Elt F) ((c : Thread nD τ).loc cc0_scratch0)))
        ∗ bigSep (Finset.univ.erase c) (fun j => dutyTok ER (rdyCell j c) 0 ()) ∗ (∃ W, owes (c : Thread nD τ) (debtRdy c 0) W))
      ⊢ iprop(sigs (F := F) c 0 ∗ ∃ f, slotPts (F := F) c c f) := by
  unfold sigs
  rw [phase_zero]
  iintro ⟨⟨%f, Hf⟩, Htok, HW⟩
  have hcut : (((c : Thread nD τ).loc cc0_scratch0) ↦{fullShare} f : sProp 𝕄)
      ⊢ iprop(slotPts c c f ∗ bigSep (Finset.univ.erase c) (fun j => slotPts (F := F) c j f)) :=
    Entails.of_eq ((table_slots c f).trans (bigSep_erase (Finset.mem_univ c)))
  ihave Hs := hcut $$ Hf
  icases Hs with ⟨Hown, Hs⟩
  isplitr [Hown]
  · isplitr [HW]
    · iapply (join_each (F := F) (Finset.univ.erase c) (A := fun j => dutyTok ER (rdyCell j c) 0 ()) (B := fun j => slotPts c j f)
        (D := sigTodo c) fun j => by
          unfold sigTodo
          iintro ⟨H1, H2⟩
          isplitl [H1]; · iexact H1
          iexists f; iexact H2)
      isplitl [Htok] <;> iassumption
    iexact HW
  iexists f; iexact Hown

theorem sigs_end (c : Dev nD) : (sigs (F := F) c 16 : sProp 𝕄) ⊢ iprop(∃ W, owes (c : Thread nD τ) (debtRcv c 0) W) := by
  unfold sigs debtRdy
  rw [debt_end, add_zero]
  iintro ⟨-, HW⟩
  iexact HW

/-- The chunk cut into shares. -/
theorem cpys_start (c : Dev nD) :
    iprop(minePts ch c fullShare ∗ bigSep (Finset.univ.erase c) (cpyTools c) ∗ (∃ W, owes (c : Thread nD τ) (debtRcv c 0) W))
      ⊢ iprop(cpys ch c 0 ∗ minePts ch c (lent c)) := by
  unfold cpys
  rw [phase_zero]
  have hcut : (minePts ch c fullShare : sProp 𝕄)
      ⊢ iprop(minePts ch c (lent c) ∗ bigSep (Finset.univ.erase c) (fun j => minePts ch c (lent j))) :=
    Entails.of_eq ((mine_shares ch c).trans (bigSep_erase (Finset.mem_univ c)))
  iintro ⟨Hm, Ht, HW⟩
  ihave Hm := hcut $$ Hm
  icases Hm with ⟨Hown, Hm⟩
  isplitr [Hown]
  · isplitr [HW]
    · iapply (join_each (F := F) (Finset.univ.erase c) (A := fun j => minePts ch c (lent j)) (B := cpyTools c)
        (D := cpyTodo ch c) fun j => by
          unfold cpyTodo cpyTools
          iintro ⟨H1, H2, H3, H4, H5⟩
          isplitl [H2]; · iexact H2
          isplitl [H3]; · iexact H3
          isplitl [H1]; · iexact H1
          isplitl [H4] <;> iassumption)
      isplitl [Hm] <;> iassumption
    iexact HW
  iexact Hown

/-- The own slot joins the arrivals. -/
theorem arrs_start (c : Dev nD) :
    iprop(cpys ch c 16 ∗ slotPts c c (table ch) ∗ bigSep (Finset.univ.erase c) (arrTodo c))
      ⊢ iprop(arrs ch c 0 ∗ bigSep (Finset.univ.erase c) (cpyDone (F := F) c)) := by
  unfold cpys arrs
  rw [phase_zero, phase_end]
  unfold debtRcv
  rw [debt_end]
  iintro ⟨⟨Hd, HW⟩, Hown, Ht⟩
  isplitr [Hd]
  · isplitl [Ht]; · iexact Ht
    isplitl [Hown] <;> iassumption
  iexact Hd

/-- The credits of the copies go to the last round. -/
theorem ends_start (c : Dev nD) :
    iprop(arrs ch c 16 ∗ bigSep (Finset.univ.erase c) (cpyDone (F := F) c) ∗ bigSep (Finset.univ.erase c) (fun j => atPos ER (sndCell c j) 0 ∅ 0))
      ⊢ iprop(ends ch c 0 ∗ bigSep (Finset.univ.erase c) (arrDone ch c) ∗ slotPts c c (table ch)
        ∗ bigSep (Finset.univ.erase c) (fun j => atPos ER (rdyCell c j) 1 ∅ 0)) := by
  unfold arrs ends
  rw [phase_zero, phase_end]
  iintro ⟨⟨Ha, Hown, HW⟩, Hc, Hs⟩
  have hsplit : iprop(bigSep (Finset.univ.erase c) (cpyDone (F := F) c) ∗ bigSep (Finset.univ.erase c) (fun j => atPos ER (sndCell c j) 0 ∅ 0))
      ⊢ iprop(bigSep (Finset.univ.erase c) (endTodo (F := F) c) ∗ bigSep (Finset.univ.erase c) (fun j => atPos ER (rdyCell c j) 1 ∅ 0)) := by
    rw [← bigSep_sep', ← bigSep_sep']
    refine bigSep_mono fun j _ => ?_
    show iprop((atPos ER (rdyCell c j) 1 ∅ 0 ∗ cred (tallyAt (sndCell c j) () N)) ∗ atPos ER (sndCell c j) 0 ∅ 0)
      ⊢ iprop((atPos ER (sndCell c j) 0 ∅ 0 ∗ cred (tallyAt (sndCell c j) () N)) ∗ atPos ER (rdyCell c j) 1 ∅ 0)
    iintro ⟨⟨H1, H2⟩, H3⟩
    isplitr [H1]
    · isplitl [H3] <;> iassumption
    iexact H1
  ihave Hp := hsplit $$ [Hc Hs]
  · isplitl [Hc] <;> iassumption
  icases Hp with ⟨He, Hr⟩
  isplitl [He HW]
  · isplitl [He] <;> iassumption
  isplitl [Ha]; · iexact Ha
  isplitl [Hown] <;> iassumption

/-! ## The end -/

/-- A cell of the device is closed: its semaphore is back at zero. -/
theorem close_cell (x : Dev nD × Kind) (r : ℕ) (hr : ∀ r', r ≤ r' → (plan ch).duties (kcell x) r' = ∅) :
    iprop(known ch K ∗ atPos ER (kcell x) r ∅ 0) ⊢ |={Set.univ}[frame]=> semVal (kcell x) 0 := by
  iintro ⟨HK, Hat⟩
  iapply (Rounds.cell_close ER (plan ch) (Set.mem_univ (K x)) (fun h => h) (R := r) hr)
  isplitl [HK]; · iapply (known_inv ch K x); iexact HK
  iexact Hat

end Cert.Exchange

end
-- ==== Proof.Parts.lean ====
/-
# The pieces of the body

The body is a sequence of pieces.  What each piece takes and leaves, one lemma each: the signals, the copies, the
arrivals with the reading of the slots, and the ends of the copies.
-/
module

public import proofs.«01_k».proof.Proof.Between

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ch : Dev nD → S128x512.Idx → Elt F .fp8e4m3) (K : Dev nD × Kind → ℕ)

/-! ## The blocks the device works on -/

/-- Buffer `b` of device `c`, whole, at contents `X`. -/
abbrev bufAt (c : Dev nD) (b : Ref sig .tc) (X : b.ty.Contents (Elt F)) : sProp 𝕄 := ((c : Thread nD τ).loc b) ↦{fullShare} X

/-- The blocks: the tokens, the router's matrix, the chosen experts, the own experts, the shared matrix, the result. -/
def blocks (c : Dev nD) (X0 : (cc0_stg0_0 : Ref sig .tc).ty.Contents (Elt F)) (X1 : (cc0_stg1_0 : Ref sig .tc).ty.Contents (Elt F))
    (X2 : (cc0_stg2_0 : Ref sig .tc).ty.Contents (Elt F)) (X3 : (cc0_stg3_0 : Ref sig .tc).ty.Contents (Elt F))
    (X4 : (cc0_stg4_0 : Ref sig .tc).ty.Contents (Elt F)) (X5 : (cc0_stg5_0 : Ref sig .tc).ty.Contents (Elt F)) : sProp 𝕄 :=
  iprop(bufAt c cc0_stg0_0 X0 ∗ bufAt c cc0_stg1_0 X1 ∗ bufAt c cc0_stg2_0 X2 ∗ bufAt c cc0_stg3_0 X3
    ∗ bufAt c cc0_stg4_0 X4 ∗ bufAt c cc0_stg5_0 X5)

variable (X0 : (cc0_stg0_0 : Ref sig .tc).ty.Contents (Elt F)) (X1 : (cc0_stg1_0 : Ref sig .tc).ty.Contents (Elt F))
  (X2 : (cc0_stg2_0 : Ref sig .tc).ty.Contents (Elt F)) (X3 : (cc0_stg3_0 : Ref sig .tc).ty.Contents (Elt F))
  (X4 : (cc0_stg4_0 : Ref sig .tc).ty.Contents (Elt F)) (X5 : (cc0_stg5_0 : Ref sig .tc).ty.Contents (Elt F))

/-- One of the blocks, taken out for a moment. -/
def Lends (P : sProp 𝕄) (p : sProp 𝕄) : Prop := P ⊢ iprop(p ∗ (p -∗ P))

theorem lends_head (p P : sProp 𝕄) : Lends iprop(p ∗ P) p := by
  unfold Lends
  iintro ⟨H1, H2⟩
  isplitl [H1]; · iexact H1
  iintro H1
  isplitl [H1] <;> iassumption
theorem lends_tail (q : sProp 𝕄) {P p : sProp 𝕄} (h : Lends P p) : Lends iprop(q ∗ P) p := by
  unfold Lends at *
  iintro ⟨H1, H2⟩
  ihave H := h $$ H2
  icases H with ⟨Hp, Hback⟩
  isplitl [Hp]; · iexact Hp
  iintro Hp
  isplitl [H1]; · iexact H1
  iapply Hback; iexact Hp

theorem lends0 (c : Dev nD) : Lends (blocks c X0 X1 X2 X3 X4 X5) (bufAt c cc0_stg0_0 X0) := lends_head _ _
theorem lends1 (c : Dev nD) : Lends (blocks c X0 X1 X2 X3 X4 X5) (bufAt c cc0_stg1_0 X1) := lends_tail _ (lends_head _ _)
theorem lends2 (c : Dev nD) : Lends (blocks c X0 X1 X2 X3 X4 X5) (bufAt c cc0_stg2_0 X2) := lends_tail _ (lends_tail _ (lends_head _ _))
theorem lends3 (c : Dev nD) : Lends (blocks c X0 X1 X2 X3 X4 X5) (bufAt c cc0_stg3_0 X3) :=
  lends_tail _ (lends_tail _ (lends_tail _ (lends_head _ _)))
theorem lends4 (c : Dev nD) : Lends (blocks c X0 X1 X2 X3 X4 X5) (bufAt c cc0_stg4_0 X4) :=
  lends_tail _ (lends_tail _ (lends_tail _ (lends_tail _ (lends_head _ _))))

/-- Reading a block. -/
theorem block_load {α : Type} {Q : α → sProp 𝕄} (c : Dev nD) {cs : CoreSpace} {s : Shape} {e : EltTy} (m : Memref sig .tc cs s e) (r : LoadRect s)
    {hl : m.view.LoadsAt r} {f : Buf (Elt F) (m.view.loc (c : Thread nD τ))} {P : sProp 𝕄}
    (hP : Lends P iprop(m.view.loc (c : Thread nD τ) ↦{fullShare} f)) (v : r.shape.Idx → Elt F e) (hv : m.view.readAt (Elt F) r f = v)
    (k : (r.shape.Idx → Elt F e) → Prog (TpuEff nD τ sig (Elt F) Λ₀ .tc) α) {A B R : sProp 𝕄}
    (hk : iprop(A ∗ B ∗ P ∗ R) ⊢ wpc c (k v) Q) :
    iprop(A ∗ B ∗ P ∗ R) ⊢ wpc c (.op (.load m r hl) k) Q := by
  unfold Lends at hP
  iintro ⟨HA, HB, HP, HR⟩
  ihave H := hP $$ HP
  icases H with ⟨Hp, Hback⟩
  iapply (wp_load 𝒱₀ (c : Thread nD τ) none Set.univ (m := m) (Finset.subset_univ _)) $$ Hp
  iintro Hp
  rw [hv]
  iapply hk
  isplitl [HA]; · iexact HA
  isplitl [HB]; · iexact HB
  isplitr [HR]
  · iapply Hback; iexact Hp
  iexact HR

theorem zero2 : (![0, 0] : Fin 2 → ℕ) = fun _ => 0 := funext fun a => by fin_cases a <;> rfl

/-- One of the device's own two experts, as the kernel reads it. -/
def expertAt (i : Fin 2) : Vec F S1x128x256 .bf16 :=
  match i with
  | 0 => (Memref.whole cc0_stg3_0 : Memref sig .tc .vmem S2x128x256 .bf16).view.readAt (Elt F)
      (Rect.unit (s := S2x128x256) ![0, 0, 0] S1x128x256.size inb_S2x128x256_S1x128x256_0_0_0).toLoadRect X3
  | 1 => (Memref.whole cc0_stg3_0 : Memref sig .tc .vmem S2x128x256 .bf16).view.readAt (Elt F)
      (Rect.unit (s := S2x128x256) ![1, 0, 0] S1x128x256.size inb_S2x128x256_S1x128x256_1_0_0).toLoadRect X3

/-- The two experts side by side. -/
def pair : FVec F S128x512 .bf16 := k0_pay1 (expertAt X3 0) (expertAt X3 1)

/-- The factor the chunk is scaled by. -/
def factor : F .bf16 := Scalar.ofBits .bf16 0x4200#16

/-- The chunk a device sends round. -/
def chunk : S128x512.Idx → Elt F .fp8e4m3 := k0_pay3 (pair X3) factor

/-! ## The signals -/

set_option maxHeartbeats 1000000 in
/-- The barrier and the first eight signals. -/
theorem part1_run (c : Dev nD) {Q : _ → sProp 𝕄} {R : sProp 𝕄}
    (hQ : iprop(known ch K ∗ sigs c 8 ∗ (atPos ER (barCell c) 1 ∅ 0 ∗ (∃ f, slotPts c c f)) ∗ R) ⊢ Q ⟨c, me c⟩) :
    iprop(known ch K ∗ barTools c ∗ (∃ W, owes (c : Thread nD τ) (O₀ c) W)
        ∗ ((∃ f, bufAt c cc0_scratch0 f) ∗ bigSep (Finset.univ.erase c) (fun j => dutyTok ER (rdyCell j c) 0 ())) ∗ R) ⊢ wpc (F := F) c (k0_part1 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4) Q := by
  simp only [k0_part1_eq_skeleton]; unfold k0_part1_skel
  simp only [semSignalHereWord, semSignalWord, semWaitWord, Prog.lift, Prog.bind_op, Prog.bind_ret, Prog.pure_eq_ret, wp_deviceId]
  refine bar_op ch K c _ ?_
  have hbar : iprop(known ch K ∗ (∃ W, owes (c : Thread nD τ) (debtRdy c 0) W) ∗ atPos ER (barCell c) 1 ∅ 0
        ∗ ((∃ f, bufAt c cc0_scratch0 f) ∗ bigSep (Finset.univ.erase c) (fun j => dutyTok ER (rdyCell j c) 0 ())) ∗ R)
      ⊢ iprop(known ch K ∗ sigs c 0 ∗ (atPos ER (barCell c) 1 ∅ 0 ∗ (∃ f, slotPts c c f)) ∗ R) := by
    iintro ⟨HK, HW, Hat, ⟨Hf, Ht⟩, HR⟩
    ihave Hs := (sigs_start c) $$ [Hf Ht HW]
    · isplitl [Hf]; · iexact Hf
      isplitl [Ht] <;> iassumption
    icases Hs with ⟨Hs, Hown⟩
    isplitl [HK]; · iexact HK
    isplitl [Hs]; · iexact Hs
    isplitr [HR]
    · isplitl [Hat] <;> iassumption
    iexact HR
  refine BIBase.Entails.trans hbar ?_
  have t := fun k R => sig_turn ch K c 0 0 rfl (k0_cond1 c) (guard_iff 0 c) (fun h => ⟨k0_dev1, k0_dev1_lt c h⟩)
    (fun _ => Fin.ext k0_dev1_eq) (k0_off1 c) (k0_off1_eq c) (k0_off1_inb c) k (Q := Q) (R := R)
  with_reducible refine t _ _ ?_
  clear t
  have t := fun k R => sig_turn ch K c 1 1 rfl (k0_cond2 c) (guard_iff 1 c) (fun h => ⟨k0_dev2, k0_dev2_lt c h⟩)
    (fun _ => Fin.ext k0_dev2_eq) (k0_off2 c) (k0_off2_eq c) (k0_off2_inb c) k (Q := Q) (R := R)
  with_reducible refine t _ _ ?_
  clear t
  have t := fun k R => sig_turn ch K c 2 2 rfl (k0_cond3 c) (guard_iff 2 c) (fun h => ⟨k0_dev3, k0_dev3_lt c h⟩)
    (fun _ => Fin.ext k0_dev3_eq) (k0_off3 c) (k0_off3_eq c) (k0_off3_inb c) k (Q := Q) (R := R)
  with_reducible refine t _ _ ?_
  clear t
  have t := fun k R => sig_turn ch K c 3 3 rfl (k0_cond4 c) (guard_iff 3 c) (fun h => ⟨k0_dev4, k0_dev4_lt c h⟩)
    (fun _ => Fin.ext k0_dev4_eq) (k0_off4 c) (k0_off4_eq c) (k0_off4_inb c) k (Q := Q) (R := R)
  with_reducible refine t _ _ ?_
  clear t
  have t := fun k R => sig_turn ch K c 4 4 rfl (k0_cond5 c) (guard_iff 4 c) (fun h => ⟨k0_dev5, k0_dev5_lt c h⟩)
    (fun _ => Fin.ext k0_dev5_eq) (k0_off5 c) (k0_off5_eq c) (k0_off5_inb c) k (Q := Q) (R := R)
  with_reducible refine t _ _ ?_
  clear t
  have t := fun k R => sig_turn ch K c 5 5 rfl (k0_cond6 c) (guard_iff 5 c) (fun h => ⟨k0_dev6, k0_dev6_lt c h⟩)
    (fun _ => Fin.ext k0_dev6_eq) (k0_off6 c) (k0_off6_eq c) (k0_off6_inb c) k (Q := Q) (R := R)
  with_reducible refine t _ _ ?_
  clear t
  have t := fun k R => sig_turn ch K c 6 6 rfl (k0_cond7 c) (guard_iff 6 c) (fun h => ⟨k0_dev7, k0_dev7_lt c h⟩)
    (fun _ => Fin.ext k0_dev7_eq) (k0_off7 c) (k0_off7_eq c) (k0_off7_inb c) k (Q := Q) (R := R)
  with_reducible refine t _ _ ?_
  clear t
  have t := fun k R => sig_turn ch K c 7 7 rfl (k0_cond8 c) (guard_iff 7 c) (fun h => ⟨k0_dev8, k0_dev8_lt c h⟩)
    (fun _ => Fin.ext k0_dev8_eq) (k0_off8 c) (k0_off8_eq c) (k0_off8_inb c) k (Q := Q) (R := R)
  with_reducible refine t _ _ ?_
  clear t
  exact BIBase.Entails.trans hQ (le_wp_ret _ _ _ _ _)

set_option maxHeartbeats 1000000 in
/-- The other eight signals; the device reads its two experts. -/
theorem part2_run (c : Dev nD) {Q : _ → sProp 𝕄} {R : sProp 𝕄}
    (hQ : iprop(known ch K ∗ sigs c 16 ∗ blocks c X0 X1 X2 X3 X4 X5 ∗ R) ⊢ Q ⟨pair X3, factor⟩) :
    iprop(known ch K ∗ sigs c 8 ∗ blocks c X0 X1 X2 X3 X4 X5 ∗ R) ⊢ wpc (F := F) c (k0_part2 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    c (me c)) Q := by
  simp only [k0_part2_eq_skeleton]; unfold k0_part2_skel
  simp only [semSignalHereWord, semSignalWord, semWaitWord, Prog.lift, Prog.bind_op, Prog.bind_ret, Prog.pure_eq_ret, wp_deviceId]
  have t := fun k R => sig_turn ch K c 8 8 rfl (k0_cond9 c) (guard_iff 8 c) (fun h => ⟨k0_dev9, k0_dev9_lt c h⟩)
    (fun _ => Fin.ext k0_dev9_eq) (k0_off9 c) (k0_off9_eq c) (k0_off9_inb c) k (Q := Q) (R := R)
  with_reducible refine t _ _ ?_
  clear t
  have t := fun k R => sig_turn ch K c 9 9 rfl (k0_cond10 c) (guard_iff 9 c) (fun h => ⟨k0_dev10, k0_dev10_lt c h⟩)
    (fun _ => Fin.ext k0_dev10_eq) (k0_off10 c) (k0_off10_eq c) (k0_off10_inb c) k (Q := Q) (R := R)
  with_reducible refine t _ _ ?_
  clear t
  have t := fun k R => sig_turn ch K c 10 10 rfl (k0_cond11 c) (guard_iff 10 c) (fun h => ⟨k0_dev11, k0_dev11_lt c h⟩)
    (fun _ => Fin.ext k0_dev11_eq) (k0_off11 c) (k0_off11_eq c) (k0_off11_inb c) k (Q := Q) (R := R)
  with_reducible refine t _ _ ?_
  clear t
  have t := fun k R => sig_turn ch K c 11 11 rfl (k0_cond12 c) (guard_iff 11 c) (fun h => ⟨k0_dev12, k0_dev12_lt c h⟩)
    (fun _ => Fin.ext k0_dev12_eq) (k0_off12 c) (k0_off12_eq c) (k0_off12_inb c) k (Q := Q) (R := R)
  with_reducible refine t _ _ ?_
  clear t
  have t := fun k R => sig_turn ch K c 12 12 rfl (k0_cond13 c) (guard_iff 12 c) (fun h => ⟨k0_dev13, k0_dev13_lt c h⟩)
    (fun _ => Fin.ext k0_dev13_eq) (k0_off13 c) (k0_off13_eq c) (k0_off13_inb c) k (Q := Q) (R := R)
  with_reducible refine t _ _ ?_
  clear t
  have t := fun k R => sig_turn ch K c 13 13 rfl (k0_cond14 c) (guard_iff 13 c) (fun h => ⟨k0_dev14, k0_dev14_lt c h⟩)
    (fun _ => Fin.ext k0_dev14_eq) (k0_off14 c) (k0_off14_eq c) (k0_off14_inb c) k (Q := Q) (R := R)
  with_reducible refine t _ _ ?_
  clear t
  have t := fun k R => sig_turn ch K c 14 14 rfl (k0_cond15 c) (guard_iff 14 c) (fun h => ⟨k0_dev15, k0_dev15_lt c h⟩)
    (fun _ => Fin.ext k0_dev15_eq) (k0_off15 c) (k0_off15_eq c) (k0_off15_inb c) k (Q := Q) (R := R)
  with_reducible refine t _ _ ?_
  clear t
  have t := fun k R => sig_turn ch K c 15 15 rfl (k0_cond16 c) (guard_iff 15 c) (fun h => ⟨k0_dev16, k0_dev16_lt c h⟩)
    (fun _ => Fin.ext k0_dev16_eq) (k0_off16 c) (k0_off16_eq c) (k0_off16_inb c) k (Q := Q) (R := R)
  with_reducible refine t _ _ ?_
  clear t
  refine block_load c (Memref.whole cc0_stg3_0) (Rect.unit (s := S2x128x256) ![0, 0, 0] S1x128x256.size inb_S2x128x256_S1x128x256_0_0_0).toLoadRect
    (lends3 X0 X1 X2 X3 X4 X5 c) (expertAt X3 0) rfl _ ?_
  refine block_load c (Memref.whole cc0_stg3_0) (Rect.unit (s := S2x128x256) ![1, 0, 0] S1x128x256.size inb_S2x128x256_S1x128x256_1_0_0).toLoadRect
    (lends3 X0 X1 X2 X3 X4 X5 c) (expertAt X3 1) rfl _ ?_
  exact BIBase.Entails.trans hQ (le_wp_ret _ _ _ _ _)

/-! ## The copies -/

/-- The whole chunk stored. -/
theorem whole_mine (c : Dev nD) (f : (cc0_scratch1 : Ref sig .tc).ty.Contents (Elt F)) (w : S128x512.Idx → Elt F .fp8e4m3) (hw : ch c = w) :
    (((c : Thread nD τ).loc cc0_scratch1) ↦{fullShare}
        ((mineM.access (Rect.unit (s := S128x512) ![0, 0] S128x512.size inb_S128x512_S128x512_0_0)).write (Elt F) f w Finset.univ) : sProp 𝕄)
      = minePts ch c fullShare := by
  unfold minePts
  rw [hw]
  exact congrArg _ (Memref.write_access_unit_zero_univ (Elt F) cc0_scratch1 zero2 _ f w)

/-- The chunk is stored and cut into shares. -/
theorem mine_store {α : Type} {Q : α → sProp 𝕄} (c : Dev nD) (w : S128x512.Idx → Elt F .fp8e4m3) (hw : ch c = w)
    {hl : mineM.view.LoadsAt (Rect.unit (s := S128x512) ![0, 0] S128x512.size inb_S128x512_S128x512_0_0).toLoadRect}
    {hx : (mineM.access (Rect.unit (s := S128x512) ![0, 0] S128x512.size inb_S128x512_S128x512_0_0)).Stores Finset.univ}
    {hm : (Finset.univ : Finset (Rect.unit (s := S128x512) ![0, 0] S128x512.size inb_S128x512_S128x512_0_0).shape.Idx) = Finset.univ
      ∨ ∀ a, (Rect.unit (s := S128x512) ![0, 0] S128x512.size inb_S128x512_S128x512_0_0).stride a = 1}
    (k : Prog (TpuEff nD τ sig (Elt F) Λ₀ .tc) α) {R : sProp 𝕄}
    (hk : iprop(known ch K ∗ cpys ch c 0 ∗ minePts ch c (lent c) ∗ R) ⊢ wpc c k Q) :
    iprop(known ch K ∗ sigs c 16 ∗ (bigSep (Finset.univ.erase c) (cpyTools c) ∗ (∃ f, bufAt c cc0_scratch1 f)) ∗ R)
      ⊢ wpc c (.op (.load mineM (Rect.unit (s := S128x512) ![0, 0] S128x512.size inb_S128x512_S128x512_0_0).toLoadRect hl) fun _ =>
          .op (.store mineM (Rect.unit (s := S128x512) ![0, 0] S128x512.size inb_S128x512_S128x512_0_0) w Finset.univ hx hm) fun _ => k) Q := by
  iintro ⟨HK, HS, ⟨Ht, ⟨%f, Hm⟩⟩, HR⟩
  iapply (wp_load 𝒱₀ (c : Thread nD τ) none Set.univ (m := mineM) (Finset.subset_univ _)) $$ Hm
  iintro Hm
  iapply (wp_store 𝒱₀ (c : Thread nD τ) none Set.univ (m := mineM)
    (r := Rect.unit (s := S128x512) ![0, 0] S128x512.size inb_S128x512_S128x512_0_0) (Mk := Finset.univ) (Finset.subset_univ _)) $$ Hm
  iintro Hm
  ihave Hm := (Entails.of_eq (whole_mine ch c f w hw)) $$ Hm
  ihave HS := (sigs_end c) $$ HS
  ihave Hc := (cpys_start ch c) $$ [Hm Ht HS]
  · isplitl [Hm]; · iexact Hm
    isplitl [Ht] <;> iassumption
  icases Hc with ⟨Hc, Hm⟩
  iapply hk
  isplitl [HK]; · iexact HK
  isplitl [Hc]; · iexact Hc
  isplitl [Hm] <;> iassumption

theorem stored_pts (c : Dev nD) (f : S16x128x512.Idx → Elt F .fp8e4m3) (w : S1x128x512.Idx → Elt F .fp8e4m3) (hw : w = asSlab (ch c)) :
    (((c : Thread nD τ).loc cc0_scratch0) ↦[slotSet c]{fullShare} ((commM.access (slotR c)).write (Elt F) f w Finset.univ) : sProp 𝕄)
      ⊢ slotPts c c (table ch) :=
  Entails.of_eq (pointsTo_congr fun i hi => stored_slot ch c f w hw i hi)

/-- The device's own slot, stored. -/
theorem own_store {α : Type} {Q : α → sProp 𝕄} (c : Dev nD) (off : Fin 3 → ℕ) (hoff : off = ![c.val, 0, 0])
    (inb : ∀ a, off a + S1x128x512.size a ≤ S16x128x512.size a) (w : S1x128x512.Idx → Elt F .fp8e4m3) (hw : w = asSlab (ch c))
    {hl : commM.view.LoadsAt (Rect.unit (s := S16x128x512) off S1x128x512.size inb).toLoadRect}
    {hx : (commM.access (Rect.unit (s := S16x128x512) off S1x128x512.size inb)).Stores Finset.univ}
    {hm : (Finset.univ : Finset (Rect.unit (s := S16x128x512) off S1x128x512.size inb).shape.Idx) = Finset.univ
      ∨ ∀ a, (Rect.unit (s := S16x128x512) off S1x128x512.size inb).stride a = 1}
    (k : Prog (TpuEff nD τ sig (Elt F) Λ₀ .tc) α) {B R : sProp 𝕄}
    (hk : iprop(known ch K ∗ arrs ch c 0 ∗ B ∗ bigSep (Finset.univ.erase c) (cpyDone c) ∗ R) ⊢ wpc c k Q) :
    iprop(known ch K ∗ cpys ch c 16 ∗ B ∗ ((∃ f, slotPts c c f) ∗ bigSep (Finset.univ.erase c) (arrTodo c)) ∗ R)
      ⊢ wpc c (.op (.load commM (Rect.unit (s := S16x128x512) off S1x128x512.size inb).toLoadRect hl) fun _ =>
          .op (.store commM (Rect.unit (s := S16x128x512) off S1x128x512.size inb) w Finset.univ hx hm) fun _ => k) Q := by
  subst hoff
  iintro ⟨HK, HC, HB, ⟨⟨%f, Hs⟩, Ht⟩, HR⟩
  unfold slotPts
  iapply (wp_load_rect 𝒱₀ (c : Thread nD τ) none Set.univ (m := commM) (r := slotR c) (S := slotSet c) (access_set c).subset) $$ Hs
  iintro Hs
  iapply (wp_store 𝒱₀ (c : Thread nD τ) none Set.univ (m := commM) (r := slotR c) (Mk := Finset.univ) (S := slotSet c)
    ((View.setOn_subset_set _ _).trans (access_set c).subset)) $$ Hs
  iintro Hs
  ihave Hs := (stored_pts ch c f w hw) $$ Hs
  ihave Ha := (arrs_start ch c) $$ [HC Hs Ht]
  · isplitl [HC]; · iexact HC
    isplitl [Hs] <;> iassumption
  icases Ha with ⟨Ha, Hd⟩
  iapply hk
  isplitl [HK]; · iexact HK
  isplitl [Ha]; · iexact Ha
  isplitl [HB]; · iexact HB
  isplitl [Hd] <;> iassumption

set_option maxHeartbeats 1000000 in
/-- The chunk is stored; the first eight copies. -/
theorem part3_run (c : Dev nD) (v56 : FVec F S128x512 .bf16) (cst : F .bf16) (hch : ch c = k0_pay3 v56 cst) {Q : _ → sProp 𝕄} {R : sProp 𝕄}
    (hQ : iprop(known ch K ∗ cpys ch c 8 ∗ minePts ch c (lent c) ∗ R) ⊢ Q ⟨k0_pay2 v56 cst, Scalar.extui (Scalar.cmpi .ne (me c) 8#32)⟩) :
    iprop(known ch K ∗ sigs c 16 ∗ (bigSep (Finset.univ.erase c) (cpyTools c) ∗ (∃ f, bufAt c cc0_scratch1 f)) ∗ R) ⊢ wpc (F := F) c (k0_part3 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    c (me c) v56 cst) Q := by
  simp only [k0_part3_eq_skeleton]; unfold k0_part3_skel
  simp only [semSignalHereWord, semSignalWord, semWaitWord, Prog.lift, Prog.bind_op, Prog.bind_ret, Prog.pure_eq_ret, wp_deviceId]
  refine mine_store ch K c _ hch _ ?_
  have t := fun hsc hsrc hdst hsem k R => cpy_turn ch K c 0 0 rfl (k0_cond17 c) (guard_iff 0 c) (fun h => ⟨k0_dev17, k0_dev17_lt c h⟩)
    (fun _ => Fin.ext k0_dev17_eq) ![0] ![0] (k0_off17 c) (k0_off18 c) rfl rfl (k0_off17_eq c) (k0_off18_eq c)
    inb_S16_S1_0 inb_S16_S1_0 (k0_off17_inb c) (k0_off18_inb c) (hsc := hsc) (hsrc := hsrc) (hdst := hdst) (hsem := hsem) k (Q := Q) (R := R)
  with_reducible refine t _ _ _ _ _ _ ?_
  clear t
  have t := fun hsc hsrc hdst hsem k R => cpy_turn ch K c 1 1 rfl (k0_cond18 c) (guard_iff 1 c) (fun h => ⟨k0_dev18, k0_dev18_lt c h⟩)
    (fun _ => Fin.ext k0_dev18_eq) ![1] ![1] (k0_off19 c) (k0_off20 c) rfl rfl (k0_off19_eq c) (k0_off20_eq c)
    inb_S16_S1_1 inb_S16_S1_1 (k0_off19_inb c) (k0_off20_inb c) (hsc := hsc) (hsrc := hsrc) (hdst := hdst) (hsem := hsem) k (Q := Q) (R := R)
  with_reducible refine t _ _ _ _ _ _ ?_
  clear t
  have t := fun hsc hsrc hdst hsem k R => cpy_turn ch K c 2 2 rfl (k0_cond19 c) (guard_iff 2 c) (fun h => ⟨k0_dev19, k0_dev19_lt c h⟩)
    (fun _ => Fin.ext k0_dev19_eq) ![2] ![2] (k0_off21 c) (k0_off22 c) rfl rfl (k0_off21_eq c) (k0_off22_eq c)
    inb_S16_S1_2 inb_S16_S1_2 (k0_off21_inb c) (k0_off22_inb c) (hsc := hsc) (hsrc := hsrc) (hdst := hdst) (hsem := hsem) k (Q := Q) (R := R)
  with_reducible refine t _ _ _ _ _ _ ?_
  clear t
  have t := fun hsc hsrc hdst hsem k R => cpy_turn ch K c 3 3 rfl (k0_cond20 c) (guard_iff 3 c) (fun h => ⟨k0_dev20, k0_dev20_lt c h⟩)
    (fun _ => Fin.ext k0_dev20_eq) ![3] ![3] (k0_off23 c) (k0_off24 c) rfl rfl (k0_off23_eq c) (k0_off24_eq c)
    inb_S16_S1_3 inb_S16_S1_3 (k0_off23_inb c) (k0_off24_inb c) (hsc := hsc) (hsrc := hsrc) (hdst := hdst) (hsem := hsem) k (Q := Q) (R := R)
  with_reducible refine t _ _ _ _ _ _ ?_
  clear t
  have t := fun hsc hsrc hdst hsem k R => cpy_turn ch K c 4 4 rfl (k0_cond21 c) (guard_iff 4 c) (fun h => ⟨k0_dev21, k0_dev21_lt c h⟩)
    (fun _ => Fin.ext k0_dev21_eq) ![4] ![4] (k0_off25 c) (k0_off26 c) rfl rfl (k0_off25_eq c) (k0_off26_eq c)
    inb_S16_S1_4 inb_S16_S1_4 (k0_off25_inb c) (k0_off26_inb c) (hsc := hsc) (hsrc := hsrc) (hdst := hdst) (hsem := hsem) k (Q := Q) (R := R)
  with_reducible refine t _ _ _ _ _ _ ?_
  clear t
  have t := fun hsc hsrc hdst hsem k R => cpy_turn ch K c 5 5 rfl (k0_cond22 c) (guard_iff 5 c) (fun h => ⟨k0_dev22, k0_dev22_lt c h⟩)
    (fun _ => Fin.ext k0_dev22_eq) ![5] ![5] (k0_off27 c) (k0_off28 c) rfl rfl (k0_off27_eq c) (k0_off28_eq c)
    inb_S16_S1_5 inb_S16_S1_5 (k0_off27_inb c) (k0_off28_inb c) (hsc := hsc) (hsrc := hsrc) (hdst := hdst) (hsem := hsem) k (Q := Q) (R := R)
  with_reducible refine t _ _ _ _ _ _ ?_
  clear t
  have t := fun hsc hsrc hdst hsem k R => cpy_turn ch K c 6 6 rfl (k0_cond23 c) (guard_iff 6 c) (fun h => ⟨k0_dev23, k0_dev23_lt c h⟩)
    (fun _ => Fin.ext k0_dev23_eq) ![6] ![6] (k0_off29 c) (k0_off30 c) rfl rfl (k0_off29_eq c) (k0_off30_eq c)
    inb_S16_S1_6 inb_S16_S1_6 (k0_off29_inb c) (k0_off30_inb c) (hsc := hsc) (hsrc := hsrc) (hdst := hdst) (hsem := hsem) k (Q := Q) (R := R)
  with_reducible refine t _ _ _ _ _ _ ?_
  clear t
  have t := fun hsc hsrc hdst hsem k R => cpy_turn ch K c 7 7 rfl (k0_cond24 c) (guard_iff 7 c) (fun h => ⟨k0_dev24, k0_dev24_lt c h⟩)
    (fun _ => Fin.ext k0_dev24_eq) ![7] ![7] (k0_off31 c) (k0_off32 c) rfl rfl (k0_off31_eq c) (k0_off32_eq c)
    inb_S16_S1_7 inb_S16_S1_7 (k0_off31_inb c) (k0_off32_inb c) (hsc := hsc) (hsrc := hsrc) (hdst := hdst) (hsem := hsem) k (Q := Q) (R := R)
  with_reducible refine t _ _ _ _ _ _ ?_
  clear t
  exact BIBase.Entails.trans hQ (le_wp_ret _ _ _ _ _)

set_option maxHeartbeats 1000000 in
/-- The other eight copies; the own slot is stored, the tokens and the router's matrix are read. -/
theorem part4_run (c : Dev nD) (v59 : FVec F S128x512 .fp8e4m3) (hw : k0_pay4 v59 = asSlab (ch c)) {Q : _ → sProp 𝕄} {R : sProp 𝕄}
    (hQ : iprop(known ch K ∗ arrs ch c 0 ∗ blocks c X0 X1 X2 X3 X4 X5 ∗ bigSep (Finset.univ.erase c) (cpyDone c) ∗ R) ⊢ Q ⟨k0_pay5 X0, X1⟩) :
    iprop(known ch K ∗ cpys ch c 8 ∗ blocks c X0 X1 X2 X3 X4 X5
        ∗ ((∃ f, slotPts c c f) ∗ bigSep (Finset.univ.erase c) (arrTodo c)) ∗ R) ⊢ wpc (F := F) c (k0_part4 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    c (me c) v59 (Scalar.extui (Scalar.cmpi .ne (me c) 8#32))) Q := by
  simp only [k0_part4_eq_skeleton]; unfold k0_part4_skel
  simp only [semSignalHereWord, semSignalWord, semWaitWord, Prog.lift, Prog.bind_op, Prog.bind_ret, Prog.pure_eq_ret, wp_deviceId]
  have t := fun hsc hsrc hdst hsem k R => cpy_turn ch K c 8 8 rfl (k0_cond25 c) (guard_iff 8 c) (fun h => ⟨k0_dev25, k0_dev25_lt c h⟩)
    (fun _ => Fin.ext k0_dev25_eq) ![8] ![8] (k0_off33 c) (k0_off34 c) rfl rfl (k0_off33_eq c) (k0_off34_eq c)
    inb_S16_S1_8 inb_S16_S1_8 (k0_off33_inb c) (k0_off34_inb c) (hsc := hsc) (hsrc := hsrc) (hdst := hdst) (hsem := hsem) k (Q := Q) (R := R)
  with_reducible refine t _ _ _ _ _ _ ?_
  clear t
  have t := fun hsc hsrc hdst hsem k R => cpy_turn ch K c 9 9 rfl (k0_cond26 c) (guard_iff 9 c) (fun h => ⟨k0_dev26, k0_dev26_lt c h⟩)
    (fun _ => Fin.ext k0_dev26_eq) ![9] ![9] (k0_off35 c) (k0_off36 c) rfl rfl (k0_off35_eq c) (k0_off36_eq c)
    inb_S16_S1_9 inb_S16_S1_9 (k0_off35_inb c) (k0_off36_inb c) (hsc := hsc) (hsrc := hsrc) (hdst := hdst) (hsem := hsem) k (Q := Q) (R := R)
  with_reducible refine t _ _ _ _ _ _ ?_
  clear t
  have t := fun hsc hsrc hdst hsem k R => cpy_turn ch K c 10 10 rfl (k0_cond27 c) (guard_iff 10 c) (fun h => ⟨k0_dev27, k0_dev27_lt c h⟩)
    (fun _ => Fin.ext k0_dev27_eq) ![10] ![10] (k0_off37 c) (k0_off38 c) rfl rfl (k0_off37_eq c) (k0_off38_eq c)
    inb_S16_S1_10 inb_S16_S1_10 (k0_off37_inb c) (k0_off38_inb c) (hsc := hsc) (hsrc := hsrc) (hdst := hdst) (hsem := hsem) k (Q := Q) (R := R)
  with_reducible refine t _ _ _ _ _ _ ?_
  clear t
  have t := fun hsc hsrc hdst hsem k R => cpy_turn ch K c 11 11 rfl (k0_cond28 c) (guard_iff 11 c) (fun h => ⟨k0_dev28, k0_dev28_lt c h⟩)
    (fun _ => Fin.ext k0_dev28_eq) ![11] ![11] (k0_off39 c) (k0_off40 c) rfl rfl (k0_off39_eq c) (k0_off40_eq c)
    inb_S16_S1_11 inb_S16_S1_11 (k0_off39_inb c) (k0_off40_inb c) (hsc := hsc) (hsrc := hsrc) (hdst := hdst) (hsem := hsem) k (Q := Q) (R := R)
  with_reducible refine t _ _ _ _ _ _ ?_
  clear t
  have t := fun hsc hsrc hdst hsem k R => cpy_turn ch K c 12 12 rfl (k0_cond29 c) (guard_iff 12 c) (fun h => ⟨k0_dev29, k0_dev29_lt c h⟩)
    (fun _ => Fin.ext k0_dev29_eq) ![12] ![12] (k0_off41 c) (k0_off42 c) rfl rfl (k0_off41_eq c) (k0_off42_eq c)
    inb_S16_S1_12 inb_S16_S1_12 (k0_off41_inb c) (k0_off42_inb c) (hsc := hsc) (hsrc := hsrc) (hdst := hdst) (hsem := hsem) k (Q := Q) (R := R)
  with_reducible refine t _ _ _ _ _ _ ?_
  clear t
  have t := fun hsc hsrc hdst hsem k R => cpy_turn ch K c 13 13 rfl (k0_cond30 c) (guard_iff 13 c) (fun h => ⟨k0_dev30, k0_dev30_lt c h⟩)
    (fun _ => Fin.ext k0_dev30_eq) ![13] ![13] (k0_off43 c) (k0_off44 c) rfl rfl (k0_off43_eq c) (k0_off44_eq c)
    inb_S16_S1_13 inb_S16_S1_13 (k0_off43_inb c) (k0_off44_inb c) (hsc := hsc) (hsrc := hsrc) (hdst := hdst) (hsem := hsem) k (Q := Q) (R := R)
  with_reducible refine t _ _ _ _ _ _ ?_
  clear t
  have t := fun hsc hsrc hdst hsem k R => cpy_turn ch K c 14 14 rfl (k0_cond31 c) (guard_iff 14 c) (fun h => ⟨k0_dev31, k0_dev31_lt c h⟩)
    (fun _ => Fin.ext k0_dev31_eq) ![14] ![14] (k0_off45 c) (k0_off46 c) rfl rfl (k0_off45_eq c) (k0_off46_eq c)
    inb_S16_S1_14 inb_S16_S1_14 (k0_off45_inb c) (k0_off46_inb c) (hsc := hsc) (hsrc := hsrc) (hdst := hdst) (hsem := hsem) k (Q := Q) (R := R)
  with_reducible refine t _ _ _ _ _ _ ?_
  clear t
  have t := fun hsc hsrc hdst hsem k R => cpy_turn ch K c 15 15 rfl (k0_cond32 c) (guard_iff 15 c) (fun h => ⟨k0_dev32, k0_dev32_lt c h⟩)
    (fun _ => Fin.ext k0_dev32_eq) ![15] ![15] (k0_off47 c) (k0_off48 c) rfl rfl (k0_off47_eq c) (k0_off48_eq c)
    inb_S16_S1_15 inb_S16_S1_15 (k0_off47_inb c) (k0_off48_inb c) (hsc := hsc) (hsrc := hsrc) (hdst := hdst) (hsem := hsem) k (Q := Q) (R := R)
  with_reducible refine t _ _ _ _ _ _ ?_
  clear t
  refine own_store ch K c (k0_off49 c) (k0_off49_eq c) _ _ hw _ ?_
  refine block_load c (Memref.whole cc0_stg0_0) (Rect.unit (s := S256x128) ![0, 0] S256x128.size inb_S256x128_S256x128_0_0).toLoadRect
    (lends0 X0 X1 X2 X3 X4 X5 c) X0 (Memref.readAt_unit_zero (Elt F) cc0_stg0_0 zero2 _ X0) _ ?_
  refine block_load c (Memref.whole cc0_stg1_0) (Rect.unit (s := S128x32) ![0, 0] S128x32.size inb_S128x32_S128x32_0_0).toLoadRect
    (lends1 X0 X1 X2 X3 X4 X5 c) X1 (Memref.readAt_unit_zero (Elt F) cc0_stg1_0 zero2 _ X1) _ ?_
  exact BIBase.Entails.trans hQ (le_wp_ret _ _ _ _ _)

end Cert.Exchange

end
-- ==== Proof.Arrivals.lean ====
/-
# The later pieces of the body

The arrivals with the reading of the slots, and the ends of the copies: what each piece takes and leaves.
-/
module

public import proofs.«01_k».proof.Proof.Parts

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ch : Dev nD → S128x512.Idx → Elt F .fp8e4m3) (K : Dev nD × Kind → ℕ)

variable (X0 : (cc0_stg0_0 : Ref sig .tc).ty.Contents (Elt F)) (X1 : (cc0_stg1_0 : Ref sig .tc).ty.Contents (Elt F))
  (X2 : (cc0_stg2_0 : Ref sig .tc).ty.Contents (Elt F)) (X3 : (cc0_stg3_0 : Ref sig .tc).ty.Contents (Elt F))
  (X4 : (cc0_stg4_0 : Ref sig .tc).ty.Contents (Elt F)) (X5 : (cc0_stg5_0 : Ref sig .tc).ty.Contents (Elt F))

/-! ## The arrivals -/

set_option maxHeartbeats 1000000 in
/-- The chosen experts and the shared matrix are read; slot 0. -/
theorem part5_run (c : Dev nD) (v117 : FVec F S256x128 .bf16) (v118 : Vec F S128x32 .bf16) {Q : _ → sProp 𝕄} {R : sProp 𝕄}
    (hQ : iprop(known ch K ∗ arrs ch c 1 ∗ blocks c X0 X1 X2 X3 X4 X5 ∗ R) ⊢ Q ⟨k0_pay6 X2, k0_pay7 v117 v118 X2, k0_pay8 v117 X4, k0_pay9 v117 (asSlab (ch 0)), k0_pay10 v117 v118 X2, k0_pay11 X2, Scalar.ofBits .f32 0x00000000#32⟩) :
    iprop(known ch K ∗ arrs ch c 0 ∗ blocks c X0 X1 X2 X3 X4 X5 ∗ R) ⊢ wpc (F := F) c (k0_part5 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    (me c) v117 v118) Q := by
  simp only [k0_part5_eq_skeleton]; unfold k0_part5_skel
  simp only [semSignalHereWord, semSignalWord, semWaitWord, Prog.lift, Prog.bind_op, Prog.bind_ret, Prog.pure_eq_ret, wp_deviceId]
  refine block_load c (Memref.whole cc0_stg2_0) (Rect.unit (s := S256x1) ![0, 0] S256x1.size inb_S256x1_S256x1_0_0).toLoadRect
    (lends2 X0 X1 X2 X3 X4 X5 c) X2 (Memref.readAt_unit_zero (Elt F) cc0_stg2_0 zero2 _ X2) _ ?_
  refine block_load c (Memref.whole cc0_stg4_0) (Rect.unit (s := S128x256) ![0, 0] S128x256.size inb_S128x256_S128x256_0_0).toLoadRect
    (lends4 X0 X1 X2 X3 X4 X5 c) X4 (Memref.readAt_unit_zero (Elt F) cc0_stg4_0 zero2 _ X4) _ ?_
  have t := fun hsrc hdst k R => arr_turn ch K c 0 0 rfl (guard c 0#32) (guard_iff 0 c) ![0] ![0, 0, 0] rfl inb_S16_S1_0 inb_S16x128x512_S1x128x512_0_0_0 (hsrc := hsrc) (hdst := hdst) k (Q := Q) (R := R)
  with_reducible refine t _ _ _ _ ?_
  clear t
  have t := fun hl k R => slot_load ch K c 0 1 (by decide) ![0, 0, 0] rfl inb_S16x128x512_S1x128x512_0_0_0 (hl := hl) k (Q := Q) (R := R)
  with_reducible refine t _ _ _ ?_
  clear t
  exact BIBase.Entails.trans hQ (le_wp_ret _ _ _ _ _)

set_option maxHeartbeats 1000000 in
/-- Slots 1 and 2. -/
theorem part6_run (c : Dev nD) (v117 : FVec F S256x128 .bf16) (v131 : IVec S256x1 32) (v140 : FVec F S256x1 .f32) (v143 : FVec F S256x256 .f32) (v150 : FVec F S256x512 .f32) (v154 : FVec F S256x1 .f32) (v156 : IVec S256x1 1) (cst_83 : F .f32) {Q : _ → sProp 𝕄} {R : sProp 𝕄}
    (hQ : iprop(known ch K ∗ arrs ch c 3 ∗ R) ⊢ Q ⟨k0_pay12 v117 v131 v140 v143 v150 v154 v156 cst_83 (asSlab (ch 1)), k0_pay13 v117 (asSlab (ch 2)), k0_pay14⟩) :
    iprop(known ch K ∗ arrs ch c 1 ∗ R) ⊢ wpc (F := F) c (k0_part6 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    (me c) v117 v131 v140 v143 v150 v154 v156 cst_83) Q := by
  simp only [k0_part6_eq_skeleton]; unfold k0_part6_skel
  simp only [semSignalHereWord, semSignalWord, semWaitWord, Prog.lift, Prog.bind_op, Prog.bind_ret, Prog.pure_eq_ret, wp_deviceId]
  have t := fun hsrc hdst k R => arr_turn ch K c 1 1 rfl (guard c 1#32) (guard_iff 1 c) ![1] ![1, 0, 0] rfl inb_S16_S1_1 inb_S16x128x512_S1x128x512_1_0_0 (hsrc := hsrc) (hdst := hdst) k (Q := Q) (R := R)
  with_reducible refine t _ _ _ _ ?_
  clear t
  have t := fun hl k R => slot_load ch K c 1 2 (by decide) ![1, 0, 0] rfl inb_S16x128x512_S1x128x512_1_0_0 (hl := hl) k (Q := Q) (R := R)
  with_reducible refine t _ _ _ ?_
  clear t
  have t := fun hsrc hdst k R => arr_turn ch K c 2 2 rfl (guard c 2#32) (guard_iff 2 c) ![2] ![2, 0, 0] rfl inb_S16_S1_2 inb_S16x128x512_S1x128x512_2_0_0 (hsrc := hsrc) (hdst := hdst) k (Q := Q) (R := R)
  with_reducible refine t _ _ _ _ ?_
  clear t
  have t := fun hl k R => slot_load ch K c 2 3 (by decide) ![2, 0, 0] rfl inb_S16x128x512_S1x128x512_2_0_0 (hl := hl) k (Q := Q) (R := R)
  with_reducible refine t _ _ _ ?_
  clear t
  exact BIBase.Entails.trans hQ (le_wp_ret _ _ _ _ _)

set_option maxHeartbeats 1000000 in
/-- Slot 3; the wait for slot 4. -/
theorem part7_run (c : Dev nD) (v117 : FVec F S256x128 .bf16) (v131 : IVec S256x1 32) (v140 : FVec F S256x1 .f32) (v189 : FVec F S256x256 .f32) (v196 : FVec F S256x512 .f32) (v197 : IVec S256x1 32) {Q : _ → sProp 𝕄} {R : sProp 𝕄}
    (hQ : iprop(known ch K ∗ arrs ch c 5 ∗ R) ⊢ Q (k0_pay15 v117 v131 v140 v189 v196 v197 (asSlab (ch 3)))) :
    iprop(known ch K ∗ arrs ch c 3 ∗ R) ⊢ wpc (F := F) c (k0_part7 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    (me c) v117 v131 v140 v189 v196 v197) Q := by
  simp only [k0_part7_eq_skeleton]; unfold k0_part7_skel
  simp only [semSignalHereWord, semSignalWord, semWaitWord, Prog.lift, Prog.bind_op, Prog.bind_ret, Prog.pure_eq_ret, wp_deviceId]
  have t := fun hsrc hdst k R => arr_turn ch K c 3 3 rfl (guard c 3#32) (guard_iff 3 c) ![3] ![3, 0, 0] rfl inb_S16_S1_3 inb_S16x128x512_S1x128x512_3_0_0 (hsrc := hsrc) (hdst := hdst) k (Q := Q) (R := R)
  with_reducible refine t _ _ _ _ ?_
  clear t
  have t := fun hl k R => slot_load ch K c 3 4 (by decide) ![3, 0, 0] rfl inb_S16x128x512_S1x128x512_3_0_0 (hl := hl) k (Q := Q) (R := R)
  with_reducible refine t _ _ _ ?_
  clear t
  have t := fun hsrc hdst k R => arr_turn ch K c 4 4 rfl (guard c 4#32) (guard_iff 4 c) ![4] ![4, 0, 0] rfl inb_S16_S1_4 inb_S16x128x512_S1x128x512_4_0_0 (hsrc := hsrc) (hdst := hdst) k (Q := Q) (R := R)
  with_reducible refine t _ _ _ _ ?_
  clear t
  exact BIBase.Entails.trans hQ (le_wp_ret _ _ _ _ _)

set_option maxHeartbeats 1000000 in
/-- Slots 4 and 5. -/
theorem part8_run (c : Dev nD) (v117 : FVec F S256x128 .bf16) (v131 : IVec S256x1 32) (v140 : FVec F S256x1 .f32) (v235 : FVec F S256x256 .f32) {Q : _ → sProp 𝕄} {R : sProp 𝕄}
    (hQ : iprop(known ch K ∗ arrs ch c 6 ∗ R) ⊢ Q (k0_pay16 v117 v131 v140 v235 (asSlab (ch 4)) (asSlab (ch 5)))) :
    iprop(known ch K ∗ arrs ch c 5 ∗ R) ⊢ wpc (F := F) c (k0_part8 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    (me c) v117 v131 v140 v235) Q := by
  simp only [k0_part8_eq_skeleton]; unfold k0_part8_skel
  simp only [semSignalHereWord, semSignalWord, semWaitWord, Prog.lift, Prog.bind_op, Prog.bind_ret, Prog.pure_eq_ret, wp_deviceId]
  have t := fun hl k R => slot_load ch K c 4 5 (by decide) ![4, 0, 0] rfl inb_S16x128x512_S1x128x512_4_0_0 (hl := hl) k (Q := Q) (R := R)
  with_reducible refine t _ _ _ ?_
  clear t
  have t := fun hsrc hdst k R => arr_turn ch K c 5 5 rfl (guard c 5#32) (guard_iff 5 c) ![5] ![5, 0, 0] rfl inb_S16_S1_5 inb_S16x128x512_S1x128x512_5_0_0 (hsrc := hsrc) (hdst := hdst) k (Q := Q) (R := R)
  with_reducible refine t _ _ _ _ ?_
  clear t
  have t := fun hl k R => slot_load ch K c 5 6 (by decide) ![5, 0, 0] rfl inb_S16x128x512_S1x128x512_5_0_0 (hl := hl) k (Q := Q) (R := R)
  with_reducible refine t _ _ _ ?_
  clear t
  exact BIBase.Entails.trans hQ (le_wp_ret _ _ _ _ _)

set_option maxHeartbeats 1000000 in
/-- Slots 6 and 7. -/
theorem part9_run (c : Dev nD) (v117 : FVec F S256x128 .bf16) (v131 : IVec S256x1 32) (v140 : FVec F S256x1 .f32) (v281 : FVec F S256x256 .f32) {Q : _ → sProp 𝕄} {R : sProp 𝕄}
    (hQ : iprop(known ch K ∗ arrs ch c 8 ∗ R) ⊢ Q ⟨k0_pay17 v117 v131 v140 v281 (asSlab (ch 6)), k0_pay18 v117 (asSlab (ch 7)), k0_pay19 v131 v140, k0_pay20 v131 v140⟩) :
    iprop(known ch K ∗ arrs ch c 6 ∗ R) ⊢ wpc (F := F) c (k0_part9 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    (me c) v117 v131 v140 v281) Q := by
  simp only [k0_part9_eq_skeleton]; unfold k0_part9_skel
  simp only [semSignalHereWord, semSignalWord, semWaitWord, Prog.lift, Prog.bind_op, Prog.bind_ret, Prog.pure_eq_ret, wp_deviceId]
  have t := fun hsrc hdst k R => arr_turn ch K c 6 6 rfl (guard c 6#32) (guard_iff 6 c) ![6] ![6, 0, 0] rfl inb_S16_S1_6 inb_S16x128x512_S1x128x512_6_0_0 (hsrc := hsrc) (hdst := hdst) k (Q := Q) (R := R)
  with_reducible refine t _ _ _ _ ?_
  clear t
  have t := fun hl k R => slot_load ch K c 6 7 (by decide) ![6, 0, 0] rfl inb_S16x128x512_S1x128x512_6_0_0 (hl := hl) k (Q := Q) (R := R)
  with_reducible refine t _ _ _ ?_
  clear t
  have t := fun hsrc hdst k R => arr_turn ch K c 7 7 rfl (guard c 7#32) (guard_iff 7 c) ![7] ![7, 0, 0] rfl inb_S16_S1_7 inb_S16x128x512_S1x128x512_7_0_0 (hsrc := hsrc) (hdst := hdst) k (Q := Q) (R := R)
  with_reducible refine t _ _ _ _ ?_
  clear t
  have t := fun hl k R => slot_load ch K c 7 8 (by decide) ![7, 0, 0] rfl inb_S16x128x512_S1x128x512_7_0_0 (hl := hl) k (Q := Q) (R := R)
  with_reducible refine t _ _ _ ?_
  clear t
  exact BIBase.Entails.trans hQ (le_wp_ret _ _ _ _ _)

set_option maxHeartbeats 1000000 in
/-- Slots 8 and 9. -/
theorem part10_run (c : Dev nD) (v117 : FVec F S256x128 .bf16) (v131 : IVec S256x1 32) (v140 : FVec F S256x1 .f32) (v304 : FVec F S256x256 .f32) (v311 : FVec F S256x512 .f32) (v315 : FVec F S256x1 .f32) (v319 : FVec F S256x1 .f32) {Q : _ → sProp 𝕄} {R : sProp 𝕄}
    (hQ : iprop(known ch K ∗ arrs ch c 10 ∗ R) ⊢ Q ⟨k0_pay21 v117 v131 v140 v304 v311 v315 v319 (asSlab (ch 8)), k0_pay22 v117 (asSlab (ch 9)), k0_pay23 v131, Scalar.ofBits .f32 0x00000000#32⟩) :
    iprop(known ch K ∗ arrs ch c 8 ∗ R) ⊢ wpc (F := F) c (k0_part10 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    (me c) v117 v131 v140 v304 v311 v315 v319) Q := by
  simp only [k0_part10_eq_skeleton]; unfold k0_part10_skel
  simp only [semSignalHereWord, semSignalWord, semWaitWord, Prog.lift, Prog.bind_op, Prog.bind_ret, Prog.pure_eq_ret, wp_deviceId]
  have t := fun hsrc hdst k R => arr_turn ch K c 8 8 rfl (guard c 8#32) (guard_iff 8 c) ![8] ![8, 0, 0] rfl inb_S16_S1_8 inb_S16x128x512_S1x128x512_8_0_0 (hsrc := hsrc) (hdst := hdst) k (Q := Q) (R := R)
  with_reducible refine t _ _ _ _ ?_
  clear t
  have t := fun hl k R => slot_load ch K c 8 9 (by decide) ![8, 0, 0] rfl inb_S16x128x512_S1x128x512_8_0_0 (hl := hl) k (Q := Q) (R := R)
  with_reducible refine t _ _ _ ?_
  clear t
  have t := fun hsrc hdst k R => arr_turn ch K c 9 9 rfl (guard c 9#32) (guard_iff 9 c) ![9] ![9, 0, 0] rfl inb_S16_S1_9 inb_S16x128x512_S1x128x512_9_0_0 (hsrc := hsrc) (hdst := hdst) k (Q := Q) (R := R)
  with_reducible refine t _ _ _ _ ?_
  clear t
  have t := fun hl k R => slot_load ch K c 9 10 (by decide) ![9, 0, 0] rfl inb_S16x128x512_S1x128x512_9_0_0 (hl := hl) k (Q := Q) (R := R)
  with_reducible refine t _ _ _ ?_
  clear t
  exact BIBase.Entails.trans hQ (le_wp_ret _ _ _ _ _)

set_option maxHeartbeats 1000000 in
/-- Slots 10 and 11. -/
theorem part11_run (c : Dev nD) (v117 : FVec F S256x128 .bf16) (v131 : IVec S256x1 32) (v140 : FVec F S256x1 .f32) (v350 : FVec F S256x256 .f32) (v357 : FVec F S256x512 .f32) (v359 : IVec S256x1 1) (cst_161 : F .f32) {Q : _ → sProp 𝕄} {R : sProp 𝕄}
    (hQ : iprop(known ch K ∗ arrs ch c 12 ∗ R) ⊢ Q ⟨k0_pay24 v117 v131 v140 v350 v357 v359 cst_161 (asSlab (ch 10)), (asSlab (ch 11))⟩) :
    iprop(known ch K ∗ arrs ch c 10 ∗ R) ⊢ wpc (F := F) c (k0_part11 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    (me c) v117 v131 v140 v350 v357 v359 cst_161) Q := by
  simp only [k0_part11_eq_skeleton]; unfold k0_part11_skel
  simp only [semSignalHereWord, semSignalWord, semWaitWord, Prog.lift, Prog.bind_op, Prog.bind_ret, Prog.pure_eq_ret, wp_deviceId]
  have t := fun hsrc hdst k R => arr_turn ch K c 10 10 rfl (guard c 10#32) (guard_iff 10 c) ![10] ![10, 0, 0] rfl inb_S16_S1_10 inb_S16x128x512_S1x128x512_10_0_0 (hsrc := hsrc) (hdst := hdst) k (Q := Q) (R := R)
  with_reducible refine t _ _ _ _ ?_
  clear t
  have t := fun hl k R => slot_load ch K c 10 11 (by decide) ![10, 0, 0] rfl inb_S16x128x512_S1x128x512_10_0_0 (hl := hl) k (Q := Q) (R := R)
  with_reducible refine t _ _ _ ?_
  clear t
  have t := fun hsrc hdst k R => arr_turn ch K c 11 11 rfl (guard c 11#32) (guard_iff 11 c) ![11] ![11, 0, 0] rfl inb_S16_S1_11 inb_S16x128x512_S1x128x512_11_0_0 (hsrc := hsrc) (hdst := hdst) k (Q := Q) (R := R)
  with_reducible refine t _ _ _ _ ?_
  clear t
  have t := fun hl k R => slot_load ch K c 11 12 (by decide) ![11, 0, 0] rfl inb_S16x128x512_S1x128x512_11_0_0 (hl := hl) k (Q := Q) (R := R)
  with_reducible refine t _ _ _ ?_
  clear t
  exact BIBase.Entails.trans hQ (le_wp_ret _ _ _ _ _)

set_option maxHeartbeats 1000000 in
/-- Slot 12. -/
theorem part12_run (c : Dev nD) (v117 : FVec F S256x128 .bf16) (v131 : IVec S256x1 32) (v140 : FVec F S256x1 .f32) (v396 : FVec F S256x256 .f32) (v400 : Vec F S1x128x512 .fp8e4m3) {Q : _ → sProp 𝕄} {R : sProp 𝕄}
    (hQ : iprop(known ch K ∗ arrs ch c 13 ∗ R) ⊢ Q ⟨k0_pay25 v117 v131 v140 v396 v400 (asSlab (ch 12)), Scalar.cmpi .ne (me c) 13#32⟩) :
    iprop(known ch K ∗ arrs ch c 12 ∗ R) ⊢ wpc (F := F) c (k0_part12 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    (me c) v117 v131 v140 v396 v400) Q := by
  simp only [k0_part12_eq_skeleton]; unfold k0_part12_skel
  simp only [semSignalHereWord, semSignalWord, semWaitWord, Prog.lift, Prog.bind_op, Prog.bind_ret, Prog.pure_eq_ret, wp_deviceId]
  have t := fun hsrc hdst k R => arr_turn ch K c 12 12 rfl (guard c 12#32) (guard_iff 12 c) ![12] ![12, 0, 0] rfl inb_S16_S1_12 inb_S16x128x512_S1x128x512_12_0_0 (hsrc := hsrc) (hdst := hdst) k (Q := Q) (R := R)
  with_reducible refine t _ _ _ _ ?_
  clear t
  have t := fun hl k R => slot_load ch K c 12 13 (by decide) ![12, 0, 0] rfl inb_S16x128x512_S1x128x512_12_0_0 (hl := hl) k (Q := Q) (R := R)
  with_reducible refine t _ _ _ ?_
  clear t
  exact BIBase.Entails.trans hQ (le_wp_ret _ _ _ _ _)

set_option maxHeartbeats 1000000 in
/-- Slots 13 and 14. -/
theorem part13_run (c : Dev nD) (v117 : FVec F S256x128 .bf16) (v131 : IVec S256x1 32) (v140 : FVec F S256x1 .f32) (v442 : FVec F S256x256 .f32) {Q : _ → sProp 𝕄} {R : sProp 𝕄}
    (hQ : iprop(known ch K ∗ arrs ch c 15 ∗ R) ⊢ Q ⟨k0_pay26 v117 v131 v140 v442 (asSlab (ch 13)), k0_pay27 v117 (asSlab (ch 14)), k0_pay28 v131 v140, k0_pay29 v117 (asSlab (ch 14)), k0_pay30 v131 v140⟩) :
    iprop(known ch K ∗ arrs ch c 13 ∗ R) ⊢ wpc (F := F) c (k0_part13 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    (me c) v117 v131 v140 v442 (Scalar.cmpi .ne (me c) 13#32)) Q := by
  simp only [k0_part13_eq_skeleton]; unfold k0_part13_skel
  simp only [semSignalHereWord, semSignalWord, semWaitWord, Prog.lift, Prog.bind_op, Prog.bind_ret, Prog.pure_eq_ret, wp_deviceId]
  have t := fun hsrc hdst k R => arr_turn ch K c 13 13 rfl (guard c 13#32) (guard_iff 13 c) ![13] ![13, 0, 0] rfl inb_S16_S1_13 inb_S16x128x512_S1x128x512_13_0_0 (hsrc := hsrc) (hdst := hdst) k (Q := Q) (R := R)
  with_reducible refine t _ _ _ _ ?_
  clear t
  have t := fun hl k R => slot_load ch K c 13 14 (by decide) ![13, 0, 0] rfl inb_S16x128x512_S1x128x512_13_0_0 (hl := hl) k (Q := Q) (R := R)
  with_reducible refine t _ _ _ ?_
  clear t
  have t := fun hsrc hdst k R => arr_turn ch K c 14 14 rfl (guard c 14#32) (guard_iff 14 c) ![14] ![14, 0, 0] rfl inb_S16_S1_14 inb_S16x128x512_S1x128x512_14_0_0 (hsrc := hsrc) (hdst := hdst) k (Q := Q) (R := R)
  with_reducible refine t _ _ _ _ ?_
  clear t
  have t := fun hl k R => slot_load ch K c 14 15 (by decide) ![14, 0, 0] rfl inb_S16x128x512_S1x128x512_14_0_0 (hl := hl) k (Q := Q) (R := R)
  with_reducible refine t _ _ _ ?_
  clear t
  exact BIBase.Entails.trans hQ (le_wp_ret _ _ _ _ _)

/-! ## The ends of the copies -/

/-- The last slot is there: on to the ends of the copies. -/
theorem to_ends {α : Type} {Q : α → sProp 𝕄} (c : Dev nD) (p : Prog (TpuEff nD τ sig (Elt F) Λ₀ .tc) α) {B R : sProp 𝕄}
    (hk : iprop(known ch K ∗ ends ch c 0 ∗ B ∗ (bigSep (Finset.univ.erase c) (arrDone ch c) ∗ slotPts c c (table ch)
        ∗ bigSep (Finset.univ.erase c) (fun j => atPos ER (rdyCell c j) 1 ∅ 0)) ∗ R) ⊢ wpc c p Q) :
    iprop(known ch K ∗ arrs ch c 16 ∗ B ∗ (bigSep (Finset.univ.erase c) (cpyDone c)
        ∗ bigSep (Finset.univ.erase c) (fun j => atPos ER (sndCell c j) 0 ∅ 0)) ∗ R) ⊢ wpc c p Q := by
  iintro ⟨HK, HA, HB, ⟨Hd, Hs⟩, HR⟩
  ihave H := (ends_start ch c) $$ [HA Hd Hs]
  · isplitl [HA]; · iexact HA
    isplitl [Hd] <;> iassumption
  icases H with ⟨He, H⟩
  iapply hk
  isplitl [HK]; · iexact HK
  isplitl [He]; · iexact He
  isplitl [HB]; · iexact HB
  isplitl [H] <;> iassumption

set_option maxHeartbeats 1000000 in
/-- Slot 15; the ends of the first three copies. -/
theorem part14_run (c : Dev nD) {B : sProp 𝕄} (v117 : FVec F S256x128 .bf16) (v131 : IVec S256x1 32) (v140 : FVec F S256x1 .f32) (v465 : FVec F S256x256 .f32) (v472 : FVec F S256x512 .f32) (v480 : FVec F S256x1 .f32) (v481 : FVec F S256x256 .f32) (v482 : FVec F S256x256 .f32) {Q : _ → sProp 𝕄} {R : sProp 𝕄}
    (hQ : iprop(known ch K ∗ ends ch c 3 ∗ B ∗ (bigSep (Finset.univ.erase c) (arrDone ch c) ∗ slotPts c c (table ch)
        ∗ bigSep (Finset.univ.erase c) (fun j => atPos ER (rdyCell c j) 1 ∅ 0)) ∗ R) ⊢ Q ⟨k0_pay31 v117 v131 v140 v465 v472 v480 v481 v482 (asSlab (ch 15)), Scalar.cmpi .ne (me c) 3#32⟩) :
    iprop(known ch K ∗ arrs ch c 15 ∗ B ∗ (bigSep (Finset.univ.erase c) (cpyDone c)
        ∗ bigSep (Finset.univ.erase c) (fun j => atPos ER (sndCell c j) 0 ∅ 0)) ∗ R) ⊢ wpc (F := F) c (k0_part14 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    (me c) v117 v131 v140 v465 v472 v480 v481 v482) Q := by
  simp only [k0_part14_eq_skeleton]; unfold k0_part14_skel
  simp only [semSignalHereWord, semSignalWord, semWaitWord, Prog.lift, Prog.bind_op, Prog.bind_ret, Prog.pure_eq_ret, wp_deviceId]
  have t := fun hsrc hdst k R => arr_turn ch K c 15 15 rfl (guard c 15#32) (guard_iff 15 c) ![15] ![15, 0, 0] rfl inb_S16_S1_15 inb_S16x128x512_S1x128x512_15_0_0 (hsrc := hsrc) (hdst := hdst) k (Q := Q) (R := R)
  with_reducible refine t _ _ _ _ ?_
  clear t
  have t := fun hl k R => slot_load ch K c 15 16 (by decide) ![15, 0, 0] rfl inb_S16x128x512_S1x128x512_15_0_0 (hl := hl) k (Q := Q) (R := R)
  with_reducible refine t _ _ _ ?_
  clear t
  refine to_ends ch K c _ ?_
  have t := fun hsrc hdst k R => end_turn ch K c 0 0 rfl (guard c 0#32) (guard_iff 0 c) ![0] ![0, 0, 0] rfl inb_S16_S1_0 inb_S16x128x512_S1x128x512_0_0_0 (hsrc := hsrc) (hdst := hdst) k (Q := Q) (R := R)
  with_reducible refine t _ _ _ _ ?_
  clear t
  have t := fun hsrc hdst k R => end_turn ch K c 1 1 rfl (guard c 1#32) (guard_iff 1 c) ![1] ![0, 0, 0] rfl inb_S16_S1_1 inb_S16x128x512_S1x128x512_0_0_0 (hsrc := hsrc) (hdst := hdst) k (Q := Q) (R := R)
  with_reducible refine t _ _ _ _ ?_
  clear t
  have t := fun hsrc hdst k R => end_turn ch K c 2 2 rfl (guard c 2#32) (guard_iff 2 c) ![2] ![0, 0, 0] rfl inb_S16_S1_2 inb_S16x128x512_S1x128x512_0_0_0 (hsrc := hsrc) (hdst := hdst) k (Q := Q) (R := R)
  with_reducible refine t _ _ _ _ ?_
  clear t
  exact BIBase.Entails.trans hQ (le_wp_ret _ _ _ _ _)

set_option maxHeartbeats 1000000 in
/-- The ends of ten copies. -/
theorem part15_run (c : Dev nD) {Q : _ → sProp 𝕄} {R : sProp 𝕄}
    (hQ : iprop(known ch K ∗ ends ch c 13 ∗ R) ⊢ Q (Scalar.cmpi .ne (me c) 13#32)) :
    iprop(known ch K ∗ ends ch c 3 ∗ R) ⊢ wpc (F := F) c (k0_part15 (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4
    (me c) (Scalar.cmpi .ne (me c) 3#32)) Q := by
  simp only [k0_part15_eq_skeleton]; unfold k0_part15_skel
  simp only [semSignalHereWord, semSignalWord, semWaitWord, Prog.lift, Prog.bind_op, Prog.bind_ret, Prog.pure_eq_ret, wp_deviceId]
  have t := fun hsrc hdst k R => end_turn ch K c 3 3 rfl (guard c 3#32) (guard_iff 3 c) ![3] ![0, 0, 0] rfl inb_S16_S1_3 inb_S16x128x512_S1x128x512_0_0_0 (hsrc := hsrc) (hdst := hdst) k (Q := Q) (R := R)
  with_reducible refine t _ _ _ _ ?_
  clear t
  have t := fun hsrc hdst k R => end_turn ch K c 4 4 rfl (guard c 4#32) (guard_iff 4 c) ![4] ![0, 0, 0] rfl inb_S16_S1_4 inb_S16x128x512_S1x128x512_0_0_0 (hsrc := hsrc) (hdst := hdst) k (Q := Q) (R := R)
  with_reducible refine t _ _ _ _ ?_
  clear t
  have t := fun hsrc hdst k R => end_turn ch K c 5 5 rfl (guard c 5#32) (guard_iff 5 c) ![5] ![0, 0, 0] rfl inb_S16_S1_5 inb_S16x128x512_S1x128x512_0_0_0 (hsrc := hsrc) (hdst := hdst) k (Q := Q) (R := R)
  with_reducible refine t _ _ _ _ ?_
  clear t
  have t := fun hsrc hdst k R => end_turn ch K c 6 6 rfl (guard c 6#32) (guard_iff 6 c) ![6] ![0, 0, 0] rfl inb_S16_S1_6 inb_S16x128x512_S1x128x512_0_0_0 (hsrc := hsrc) (hdst := hdst) k (Q := Q) (R := R)
  with_reducible refine t _ _ _ _ ?_
  clear t
  have t := fun hsrc hdst k R => end_turn ch K c 7 7 rfl (guard c 7#32) (guard_iff 7 c) ![7] ![0, 0, 0] rfl inb_S16_S1_7 inb_S16x128x512_S1x128x512_0_0_0 (hsrc := hsrc) (hdst := hdst) k (Q := Q) (R := R)
  with_reducible refine t _ _ _ _ ?_
  clear t
  have t := fun hsrc hdst k R => end_turn ch K c 8 8 rfl (guard c 8#32) (guard_iff 8 c) ![8] ![0, 0, 0] rfl inb_S16_S1_8 inb_S16x128x512_S1x128x512_0_0_0 (hsrc := hsrc) (hdst := hdst) k (Q := Q) (R := R)
  with_reducible refine t _ _ _ _ ?_
  clear t
  have t := fun hsrc hdst k R => end_turn ch K c 9 9 rfl (guard c 9#32) (guard_iff 9 c) ![9] ![0, 0, 0] rfl inb_S16_S1_9 inb_S16x128x512_S1x128x512_0_0_0 (hsrc := hsrc) (hdst := hdst) k (Q := Q) (R := R)
  with_reducible refine t _ _ _ _ ?_
  clear t
  have t := fun hsrc hdst k R => end_turn ch K c 10 10 rfl (guard c 10#32) (guard_iff 10 c) ![10] ![0, 0, 0] rfl inb_S16_S1_10 inb_S16x128x512_S1x128x512_0_0_0 (hsrc := hsrc) (hdst := hdst) k (Q := Q) (R := R)
  with_reducible refine t _ _ _ _ ?_
  clear t
  have t := fun hsrc hdst k R => end_turn ch K c 11 11 rfl (guard c 11#32) (guard_iff 11 c) ![11] ![0, 0, 0] rfl inb_S16_S1_11 inb_S16x128x512_S1x128x512_0_0_0 (hsrc := hsrc) (hdst := hdst) k (Q := Q) (R := R)
  with_reducible refine t _ _ _ _ ?_
  clear t
  have t := fun hsrc hdst k R => end_turn ch K c 12 12 rfl (guard c 12#32) (guard_iff 12 c) ![12] ![0, 0, 0] rfl inb_S16_S1_12 inb_S16x128x512_S1x128x512_0_0_0 (hsrc := hsrc) (hdst := hdst) k (Q := Q) (R := R)
  with_reducible refine t _ _ _ _ ?_
  clear t
  exact BIBase.Entails.trans hQ (le_wp_ret _ _ _ _ _)

end Cert.Exchange

end
-- ==== Proof.Finish.lean ====
/-
# The whole body

The pieces joined: from what a device holds at the start of its run to its result, with every semaphore back at zero.
-/
module

public import proofs.«01_k».proof.Proof.Arrivals

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ch : Dev nD → S128x512.Idx → Elt F .fp8e4m3) (K : Dev nD × Kind → ℕ)

/-! ## Closing the semaphores -/

/-- A cell of the device past its last payment. -/
def closable (c : Dev nD) (k : Kind) : sProp 𝕄 :=
  iprop(∃ r : ℕ, ⌜∀ r', r ≤ r' → (plan (F := F) ch).duties (kcell (c, k)) r' = ∅⌝ ∗ atPos ER (kcell (c, k)) r ∅ 0)

theorem closable_done (c : Dev nD) (k : Kind) : (atPos ER (kcell (c, k)) 1 ∅ 0 : sProp 𝕄) ⊢ closable ch c k := by
  unfold closable
  iintro H
  iexists 1
  isplitr; · (ipureintro; exact duties_later ch _)
  iexact H

theorem closable_idle (c : Dev nD) (i : Fin 3) : (atPos ER (kcell (c, .inl (i, c))) 0 ∅ 0 : sProp 𝕄) ⊢ closable ch c (.inl (i, c)) := by
  unfold closable
  iintro H
  iexists 0
  isplitr; · (ipureintro; exact duties_unused ch c _ (by show decide (c ≠ c) = false; exact decide_eq_false fun h => h rfl))
  iexact H

/-- Every semaphore of the exchange on device `c`, at zero. -/
def zeros (c : Dev nD) : sProp 𝕄 := bigSep Finset.univ fun k : Kind => semVal (kcell (c, k)) 0

theorem close_all (c : Dev nD) :
    iprop(known ch K ∗ bigSep Finset.univ (closable ch c)) ⊢ |={Set.univ}=> (zeros c : sProp 𝕄) := by
  have h1 : ∀ k : Kind, iprop(known ch K ∗ closable ch c k) ⊢ |={Set.univ}=> (semVal (kcell (c, k)) 0 : sProp 𝕄) := fun k => by
    unfold closable
    iintro ⟨HK, ⟨%r, %hr, Hat⟩⟩
    iapply (close_cell ch K (c, k) r hr)
    isplitl [HK] <;> iassumption
  unfold zeros
  refine BIBase.Entails.trans (sep_mono_left (BI.bigSep_of_persistent (Finset.univ : Finset Kind) (known ch K))) ?_
  rw [← bigSep_sep']
  exact (bigSep_mono fun k _ => h1 k).trans (bigSep_fupd _ _)

theorem kinds_eq (Φ : Kind → sProp 𝕄) :
    bigSep Finset.univ Φ = iprop(((bigSep Finset.univ fun j : Dev nD => Φ (.inl (0, j))) ∗ (bigSep Finset.univ fun j : Dev nD => Φ (.inl (1, j)))
      ∗ (bigSep Finset.univ fun j : Dev nD => Φ (.inl (2, j)))) ∗ Φ (.inr ())) := by
  rw [bigSep_univ_sum, bigSep_univ_prod, bigSep_univ_eq_bigSepL [0, 1, 2] (by decide) (by decide),
    show (Finset.univ : Finset Unit) = {()} from rfl, bigSep_singleton]
  rfl

/-- A device's own cell and its partners'. -/
theorem close_kind (c : Dev nD) (i : Fin 3) :
    iprop((atPos ER (kcell (c, .inl (i, c))) 0 ∅ 0) ∗ bigSep (Finset.univ.erase c) (fun j => atPos ER (kcell (c, .inl (i, j))) 1 ∅ 0))
      ⊢ (bigSep Finset.univ fun j => closable ch c (.inl (i, j)) : sProp 𝕄) := by
  rw [bigSep_erase (Finset.mem_univ c)]
  exact BIClass.sep_mono (closable_idle ch c i) (bigSep_mono fun j _ => closable_done ch c _)

/-! ## What a device leaves -/

def leaves (c : Dev nD) : sProp 𝕄 :=
  iprop((∃ W, owes (c : Thread nD τ) 0 W) ∗ (∃ f, bufAt (F := F) c cc0_scratch0 f) ∗ (∃ f, bufAt (F := F) c cc0_scratch1 f) ∗ zeros c)

/-- Two products over the same devices, separated. -/
theorem part_each (s : Finset (Dev nD)) {A B : Dev nD → sProp 𝕄} :
    bigSep s (fun j => iprop(A j ∗ B j)) ⊢ iprop(bigSep s A ∗ bigSep s B) := by
  rw [← bigSep_sep']

theorem table_back (c : Dev nD) :
    iprop(slotPts c c (table ch) ∗ bigSep (Finset.univ.erase c) (fun j => slotPts c j (table ch)))
      ⊢ (bufAt c cc0_scratch0 (table ch) : sProp 𝕄) :=
  Entails.of_eq ((table_slots c (table ch)).trans (bigSep_erase (Finset.mem_univ c))).symm

theorem mine_back (c : Dev nD) :
    iprop(minePts ch c (lent c) ∗ bigSep (Finset.univ.erase c) (fun j => minePts ch c (lent j)))
      ⊢ (bufAt c cc0_scratch1 (ch c) : sProp 𝕄) :=
  Entails.of_eq ((mine_shares ch c).trans (bigSep_erase (Finset.mem_univ c))).symm

theorem finish (c : Dev nD) {B : sProp 𝕄} :
    iprop(known ch K ∗ ends ch c 16 ∗ B ∗ (bigSep (Finset.univ.erase c) (arrDone ch c) ∗ slotPts c c (table ch)
        ∗ bigSep (Finset.univ.erase c) (fun j => atPos ER (rdyCell c j) 1 ∅ 0)) ∗ minePts ch c (lent c) ∗ atPos ER (barCell c) 1 ∅ 0 ∗ idle c)
      ⊢ |={Set.univ}=> iprop(B ∗ leaves c) := by
  unfold ends
  rw [phase_end]
  iintro ⟨HK, ⟨He, HW⟩, HB, ⟨Ha, Hown, Hr⟩, Hm, Hbar, Hi⟩
  ihave He := (part_each (F := F) (Finset.univ.erase c) (A := fun j => atPos ER (sndCell c j) 1 ∅ 0) (B := fun j => minePts ch c (lent j))) $$ [He]
  · unfold endDone; iexact He
  icases He with ⟨Hs, Hms⟩
  ihave Ha := (part_each (F := F) (Finset.univ.erase c) (A := fun j => atPos ER (rcvCell c j) 1 ∅ 0) (B := fun j => slotPts c j (table ch))) $$ [Ha]
  · unfold arrDone; iexact Ha
  icases Ha with ⟨Hv, Hsl⟩
  unfold idle
  icases Hi with ⟨Hi0, Hi1, Hi2⟩
  imod (close_all ch K c) $$ [HK Hr Hs Hv Hi0 Hi1 Hi2 Hbar] with Hz
  · isplitl [HK]; · iexact HK
    rw [kinds_eq]
    isplitr [Hbar]
    · isplitl [Hr Hi0]
      · iapply (close_kind ch c 0); isplitl [Hi0] <;> iassumption
      isplitl [Hs Hi1]
      · iapply (close_kind ch c 1); isplitl [Hi1] <;> iassumption
      · iapply (close_kind ch c 2); isplitl [Hi2] <;> iassumption
    iapply (closable_done ch c (.inr ())); iexact Hbar
  imodintro
  isplitl [HB]; · iexact HB
  unfold leaves
  isplitl [HW]; · iexact HW
  isplitl [Hown Hsl]
  · iexists (table ch); iapply (table_back ch c); isplitl [Hown] <;> iassumption
  isplitl [Hm Hms]
  · iexists (ch c); iapply (mine_back ch c); isplitl [Hm] <;> iassumption
  iexact Hz

end Cert.Exchange

end
-- ==== Proof.Body.lean ====
/-
# The whole body

The pieces joined: from what a device holds at the start of its run to its result, with every semaphore back at zero.
-/
module

public import proofs.«01_k».proof.Proof.Finish

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (ch : Dev nD → S128x512.Idx → Elt F .fp8e4m3) (K : Dev nD × Kind → ℕ)

/-- What the kernel computes from the slabs of the table and its blocks. -/
def result (S : Dev nD → S1x128x512.Idx → Elt F .fp8e4m3) (X0 : FVec F S256x128 .bf16) (X1 : FVec F S128x32 .bf16)
    (X2 : IVec S256x1 32) (X4 : FVec F S128x256 .bf16) : FVec F S256x256 .f32 :=
  let x := k0_pay5 X0
  let v131 := k0_pay6 (F := F) X2
  let v140 := k0_pay7 x X1 X2
  let v143 := k0_pay8 x X4
  let v150 := k0_pay9 x (S 0)
  let v154 := k0_pay10 x X1 X2
  let v156 := k0_pay11 (F := F) X2
  let v189 := k0_pay12 x v131 v140 v143 v150 v154 v156 (Scalar.ofBits .f32 0x00000000#32 : F .f32) (S 1)
  let v196 := k0_pay13 x (S 2)
  let v197 := k0_pay14
  let v235 := k0_pay15 x v131 v140 v189 v196 v197 (S 3)
  let v281 := k0_pay16 x v131 v140 v235 (S 4) (S 5)
  let v304 := k0_pay17 x v131 v140 v281 (S 6)
  let v311 := k0_pay18 x (S 7)
  let v315 := k0_pay19 v131 v140
  let v319 := k0_pay20 v131 v140
  let v350 := k0_pay21 x v131 v140 v304 v311 v315 v319 (S 8)
  let v357 := k0_pay22 x (S 9)
  let v359 := k0_pay23 v131
  let v396 := k0_pay24 x v131 v140 v350 v357 v359 (Scalar.ofBits .f32 0x00000000#32 : F .f32) (S 10)
  let v442 := k0_pay25 x v131 v140 v396 (S 11) (S 12)
  let v465 := k0_pay26 x v131 v140 v442 (S 13)
  let v472 := k0_pay27 x (S 14)
  let v480 := k0_pay28 v131 v140
  let v481 := k0_pay29 x (S 14)
  let v482 := k0_pay30 v131 v140
  let v511 := k0_pay31 x v131 v140 v465 v472 v480 v481 v482 (S 15)
  v511

variable (X0 : (cc0_stg0_0 : Ref sig .tc).ty.Contents (Elt F)) (X1 : (cc0_stg1_0 : Ref sig .tc).ty.Contents (Elt F))
  (X2 : (cc0_stg2_0 : Ref sig .tc).ty.Contents (Elt F)) (X3 : (cc0_stg3_0 : Ref sig .tc).ty.Contents (Elt F))
  (X4 : (cc0_stg4_0 : Ref sig .tc).ty.Contents (Elt F)) (X5 : (cc0_stg5_0 : Ref sig .tc).ty.Contents (Elt F))

theorem bind_run {α β : Type} {Q : β → sProp 𝕄} (c : Dev nD) (p : Prog (TpuEff nD τ sig (Elt F) Λ₀ .tc) α)
    (k : α → Prog (TpuEff nD τ sig (Elt F) Λ₀ .tc) β) {P : sProp 𝕄} (h : P ⊢ wpc c p (fun a => wpc c (k a) Q)) : P ⊢ wpc c (p >>= k) Q := by
  unfold wpc at *
  rw [wp_bind]
  exact h

/-- The result read and stored. -/
theorem out_store {α : Type} {Q : α → sProp 𝕄} (c : Dev nD) (w : S256x256.Idx → Elt F .f32)
    {hl : (Memref.whole cc0_stg5_0 : Memref sig .tc .vmem S256x256 .f32).view.LoadsAt (Rect.unit (s := S256x256) ![0, 0] S256x256.size inb_S256x256_S256x256_0_0).toLoadRect}
    {hx : ((Memref.whole cc0_stg5_0 : Memref sig .tc .vmem S256x256 .f32).access (Rect.unit (s := S256x256) ![0, 0] S256x256.size inb_S256x256_S256x256_0_0)).Stores Finset.univ}
    {hm : (Finset.univ : Finset (Rect.unit (s := S256x256) ![0, 0] S256x256.size inb_S256x256_S256x256_0_0).shape.Idx) = Finset.univ
      ∨ ∀ a, (Rect.unit (s := S256x256) ![0, 0] S256x256.size inb_S256x256_S256x256_0_0).stride a = 1}
    (k : Prog (TpuEff nD τ sig (Elt F) Λ₀ .tc) α) {A B R : sProp 𝕄}
    (hk : iprop(A ∗ B ∗ blocks c X0 X1 X2 X3 X4 w ∗ R) ⊢ wpc c k Q) :
    iprop(A ∗ B ∗ blocks c X0 X1 X2 X3 X4 X5 ∗ R)
      ⊢ wpc c (.op (.load (Memref.whole cc0_stg5_0) (Rect.unit (s := S256x256) ![0, 0] S256x256.size inb_S256x256_S256x256_0_0).toLoadRect hl) fun _ =>
          .op (.store (Memref.whole cc0_stg5_0) (Rect.unit (s := S256x256) ![0, 0] S256x256.size inb_S256x256_S256x256_0_0) w Finset.univ hx hm) fun _ => k) Q := by
  unfold blocks
  iintro ⟨HA, HB, ⟨H0, H1, H2, H3, H4, H5⟩, HR⟩
  iapply (wp_load 𝒱₀ (c : Thread nD τ) none Set.univ (m := Memref.whole cc0_stg5_0) (Finset.subset_univ _)) $$ H5
  iintro H5
  iapply (wp_store 𝒱₀ (c : Thread nD τ) none Set.univ (m := Memref.whole cc0_stg5_0)
    (r := Rect.unit (s := S256x256) ![0, 0] S256x256.size inb_S256x256_S256x256_0_0) (Mk := Finset.univ) (Finset.subset_univ _)) $$ H5
  iintro H5
  ihave H5 := (show (((c : Thread nD τ).loc cc0_stg5_0) ↦{fullShare}
        (((Memref.whole cc0_stg5_0 : Memref sig .tc .vmem S256x256 .f32).access (Rect.unit (s := S256x256) ![0, 0] S256x256.size inb_S256x256_S256x256_0_0)).write
          (Elt F) X5 w Finset.univ) : sProp 𝕄) ⊢ bufAt c cc0_stg5_0 w from
      Entails.of_eq (congrArg _ (Memref.write_access_unit_zero_univ (Elt F) cc0_stg5_0 zero2 _ X5 w))) $$ H5
  iapply hk
  isplitl [HA]; · iexact HA
  isplitl [HB]; · iexact HB
  isplitr [HR]
  · unfold blocks
    isplitl [H0]; · iexact H0
    isplitl [H1]; · iexact H1
    isplitl [H2]; · iexact H2
    isplitl [H3]; · iexact H3
    isplitl [H4] <;> iassumption
  iexact HR

/-- The positions and tokens of the later rounds. -/
abbrev later (c : Dev nD) : sProp 𝕄 :=
  iprop(bigSep (Finset.univ.erase c) (cpyTools c) ∗ (∃ f, bufAt (F := F) c cc0_scratch1 f) ∗ bigSep (Finset.univ.erase c) (arrTodo c)
    ∗ bigSep (Finset.univ.erase c) (fun j => atPos ER (sndCell c j) 0 ∅ 0) ∗ idle c)

set_option maxHeartbeats 4000000 in
/-- The body of device `c`. -/
theorem body_run (c : Dev nD) (hch : ch c = chunk X3) {Q : PUnit → sProp 𝕄}
    (hQ : iprop(blocks c X0 X1 X2 X3 X4 (result (fun s => asSlab (ch s)) X0 X1 X2 X4) ∗ leaves c) ⊢ Q ⟨⟩) :
    iprop(known ch K ∗ tools c ∗ (∃ W, owes (c : Thread nD τ) (O₀ c) W) ∗ (∃ f, bufAt c cc0_scratch0 f) ∗ (∃ f, bufAt c cc0_scratch1 f)
        ∗ blocks c X0 X1 X2 X3 X4 X5)
      ⊢ wpc (F := F) c (cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4) Q := by
  simp only [cc0_body_eq_skeleton]; unfold cc0_body_skel
  refine bind_run c _ _ (BIBase.Entails.trans ?_ (part1_run ch K c (R := iprop(blocks c X0 X1 X2 X3 X4 X5 ∗ later c)) ?_))
  · unfold tools
    iintro ⟨HK, ⟨Hb, Hs, Hc, Ha, He, Hi⟩, HW, H0, H1, HB⟩
    isplitl [HK]; · iexact HK
    isplitl [Hb]; · iexact Hb
    isplitl [HW]; · iexact HW
    isplitl [H0 Hs]
    · isplitl [H0] <;> iassumption
    isplitl [HB]; · iexact HB
    isplitl [Hc]; · iexact Hc
    isplitl [H1]; · iexact H1
    isplitl [Ha]; · iexact Ha
    isplitl [He] <;> iassumption
  refine bind_run c _ _ (BIBase.Entails.trans ?_ (part2_run ch K X0 X1 X2 X3 X4 X5 c
    (R := iprop((atPos ER (barCell c) 1 ∅ 0 ∗ (∃ f, slotPts c c f)) ∗ later c)) ?_))
  · iintro ⟨HK, HS, Hb, HB, HL⟩
    isplitl [HK]; · iexact HK
    isplitl [HS]; · iexact HS
    isplitl [HB]; · iexact HB
    isplitl [Hb] <;> iassumption
  refine bind_run c _ _ (BIBase.Entails.trans ?_ (part3_run ch K c
    (R := iprop(blocks c X0 X1 X2 X3 X4 X5 ∗ (atPos ER (barCell c) 1 ∅ 0 ∗ (∃ f, slotPts c c f)) ∗ bigSep (Finset.univ.erase c) (arrTodo c)
      ∗ bigSep (Finset.univ.erase c) (fun j => atPos ER (sndCell c j) 0 ∅ 0) ∗ idle c)) _ _ hch ?_))
  · iintro ⟨HK, HS, HB, Hb, Hc, H1, HL⟩
    isplitl [HK]; · iexact HK
    isplitl [HS]; · iexact HS
    isplitl [Hc H1]
    · isplitl [Hc] <;> iassumption
    isplitl [HB]; · iexact HB
    isplitl [Hb] <;> iassumption
  refine bind_run c _ _ (BIBase.Entails.trans ?_ (part4_run ch K X0 X1 X2 X3 X4 X5 c
    (R := iprop(minePts ch c (lent c) ∗ atPos ER (barCell c) 1 ∅ 0
      ∗ bigSep (Finset.univ.erase c) (fun j => atPos ER (sndCell c j) 0 ∅ 0) ∗ idle c)) _ ((pay4_asSlab _ _).trans (congrArg asSlab hch.symm)) ?_))
  · iintro ⟨HK, HC, Hm, HB, ⟨Hb, Hown⟩, Ha, HL⟩
    isplitl [HK]; · iexact HK
    isplitl [HC]; · iexact HC
    isplitl [HB]; · iexact HB
    isplitl [Hown Ha]
    · isplitl [Hown] <;> iassumption
    isplitl [Hm]; · iexact Hm
    isplitl [Hb] <;> iassumption
  refine bind_run c _ _ (part5_run ch K X0 X1 X2 X3 X4 X5 c _ _ ?_)
  refine bind_run c _ _ (part6_run ch K c _ _ _ _ _ _ _ _ ?_)
  refine bind_run c _ _ (part7_run ch K c _ _ _ _ _ _ ?_)
  refine bind_run c _ _ (part8_run ch K c _ _ _ _ ?_)
  refine bind_run c _ _ (part9_run ch K c _ _ _ _ ?_)
  refine bind_run c _ _ (part10_run ch K c _ _ _ _ _ _ _ ?_)
  refine bind_run c _ _ (part11_run ch K c _ _ _ _ _ _ _ ?_)
  refine bind_run c _ _ (part12_run ch K c _ _ _ _ _ ?_)
  refine bind_run c _ _ (part13_run ch K c _ _ _ _ ?_)
  refine bind_run c _ _ (BIBase.Entails.trans ?_ (part14_run ch K c (B := blocks c X0 X1 X2 X3 X4 X5)
    (R := iprop(minePts ch c (lent c) ∗ atPos ER (barCell c) 1 ∅ 0 ∗ idle c)) _ _ _ _ _ _ _ _ ?_))
  · iintro ⟨HK, HA, HB, Hd, Hm, Hb, He, Hi⟩
    isplitl [HK]; · iexact HK
    isplitl [HA]; · iexact HA
    isplitl [HB]; · iexact HB
    isplitl [Hd He]
    · isplitl [Hd] <;> iassumption
    isplitl [Hm]; · iexact Hm
    isplitl [Hb] <;> iassumption
  refine bind_run c _ _ (part15_run ch K c ?_)
  simp only [Prog.lift, Prog.bind_op, Prog.bind_ret, Prog.pure_eq_ret]
  have t := fun hsrc hdst k R => end_turn ch K c 13 13 rfl (guard c 13#32) (guard_iff 13 c) ![13] ![0, 0, 0] rfl inb_S16_S1_13 inb_S16x128x512_S1x128x512_0_0_0 (hsrc := hsrc) (hdst := hdst) k (Q := Q) (R := R)
  with_reducible refine t _ _ _ _ ?_
  clear t
  have t := fun hsrc hdst k R => end_turn ch K c 14 14 rfl (guard c 14#32) (guard_iff 14 c) ![14] ![0, 0, 0] rfl inb_S16_S1_14 inb_S16x128x512_S1x128x512_0_0_0 (hsrc := hsrc) (hdst := hdst) k (Q := Q) (R := R)
  with_reducible refine t _ _ _ _ ?_
  clear t
  have t := fun hsrc hdst k R => end_turn ch K c 15 15 rfl (guard c 15#32) (guard_iff 15 c) ![15] ![0, 0, 0] rfl inb_S16_S1_15 inb_S16x128x512_S1x128x512_0_0_0 (hsrc := hsrc) (hdst := hdst) k (Q := Q) (R := R)
  with_reducible refine t _ _ _ _ ?_
  clear t
  refine out_store X0 X1 X2 X3 X4 X5 c _ _ ?_
  unfold wpc
  rw [wp_ret]
  exact BIBase.Entails.trans (finish ch K c) (fupd_mono hQ)

end Cert.Exchange

end
-- ==== Proof.Point.lean ====
/-
# The kernel at its one point

The kernel has no grid: its six blocks are its six whole arrays.  This file says what each block holds before and after
the run of the body, and that the body, run on them, leaves them so.
-/
module

public import proofs.«01_k».proof.Proof.Body
public import proofs.«01_k».proof.Proof.Gen.KernelIdeal.Points

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The memory at launch, every semaphore at zero. -/
abbrev s₀ : MemSt nD τ sig (Elt F) := ⟨m, fun _ => 0, ρ⟩

/-! ## The blocks -/

def x0 (c : Dev nD) : (cc0_stg0_0 : Ref sig .tc).ty.Contents (Elt F) :=
  (win0_0.blk (0 : Fin 1)).view.read (Elt F) ((s₀ m ρ).mem ((c : Thread nD τ).loc main_arg0))
def x1 (c : Dev nD) : (cc0_stg1_0 : Ref sig .tc).ty.Contents (Elt F) :=
  (win0_1.blk (0 : Fin 1)).view.read (Elt F) ((s₀ m ρ).mem ((c : Thread nD τ).loc main_arg1))
def x2 (c : Dev nD) : (cc0_stg2_0 : Ref sig .tc).ty.Contents (Elt F) :=
  (win0_2.blk (0 : Fin 1)).view.read (Elt F) ((s₀ m ρ).mem ((c : Thread nD τ).loc main_arg2))
def x3 (c : Dev nD) : (cc0_stg3_0 : Ref sig .tc).ty.Contents (Elt F) :=
  (win0_3.blk (0 : Fin 1)).view.read (Elt F) ((s₀ m ρ).mem ((c : Thread nD τ).loc main_arg3))
def x4 (c : Dev nD) : (cc0_stg4_0 : Ref sig .tc).ty.Contents (Elt F) :=
  (win0_4.blk (0 : Fin 1)).view.read (Elt F) ((s₀ m ρ).mem ((c : Thread nD τ).loc main_arg4))

/-- The chunk device `d` sends to the others. -/
def chk (d : Dev nD) : S128x512.Idx → Elt F .fp8e4m3 := chunk (x3 m ρ d)

/-- The result on device `c`. -/
def outAt (c : Dev nD) : (cc0_stg5_0 : Ref sig .tc).ty.Contents (Elt F) :=
  result (fun s => asSlab (chk m ρ s)) (x0 m ρ c) (x1 m ρ c) (x2 m ρ c) (x4 m ρ c)

/-! ## Before and after the point -/

def start (c : Dev nD) : sProp 𝕄 := iprop((∃ K, known (chk m ρ) K) ∗ tools (F := F) c)

def Φ₀ (c : Dev nD) : sProp 𝕄 :=
  iprop(start m ρ c ∗ (∃ f, bufAt (F := F) c cc0_scratch0 f) ∗ (∃ f, bufAt (F := F) c cc0_scratch1 f))

def Φ₁ (c : Dev nD) : sProp 𝕄 :=
  iprop((∃ f, bufAt (F := F) c cc0_scratch0 f) ∗ (∃ f, bufAt (F := F) c cc0_scratch1 f) ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => x0 m ρ c
    | ⟨1, _⟩ => x1 m ρ c
    | ⟨2, _⟩ => x2 m ρ c
    | ⟨3, _⟩ => x3 m ρ c
    | ⟨4, _⟩ => x4 m ρ c
    | ⟨5, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Buffer `b` on device `c`, holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_of (c : Dev nD) (b : Ref sig .tc) (X : b.ty.Contents (Elt F)) : (bufAt c b X : sProp 𝕄) ⊢ stg c b X := by
  iintro H
  iexists X
  isplitr; · (ipureintro; rfl)
  iexact H

theorem of_stg (c : Dev nD) (b : Ref sig .tc) (X : b.ty.Contents (Elt F)) : stg c b X ⊢ (bufAt c b X : sProp 𝕄) := by
  iintro ⟨%f, %hf, H⟩
  subst hf
  iexact H

def bodyPre (c : Dev nD) : sProp 𝕄 :=
  iprop(Φ₀ m ρ c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(Φ₁ c ∗ (dats m ρ 0 c).owesAt () t0_0.succ
    ∗ stg c cc0_stg0_0 (x0 m ρ c) ∗ stg c cc0_stg1_0 (x1 m ρ c) ∗ stg c cc0_stg2_0 (x2 m ρ c)
    ∗ stg c cc0_stg3_0 (x3 m ρ c) ∗ stg c cc0_stg4_0 (x4 m ρ c) ∗ stg c cc0_stg5_0 (outAt m ρ c))

/-- The blocks the arrays are brought into hold what the arrays hold. -/
theorem before_0 (c : Dev nD) (d) : (dats m ρ 0 c).before (0 : Fin 6) t0_0 d = x0 m ρ c := by
  unfold Dat.before
  rw [if_pos (fetch0_0 t0_0)]
  rfl
theorem before_1 (c : Dev nD) (d) : (dats m ρ 0 c).before (1 : Fin 6) t0_0 d = x1 m ρ c := by
  unfold Dat.before
  rw [if_pos (fetch0_1 t0_0)]
  rfl
theorem before_2 (c : Dev nD) (d) : (dats m ρ 0 c).before (2 : Fin 6) t0_0 d = x2 m ρ c := by
  unfold Dat.before
  rw [if_pos (fetch0_2 t0_0)]
  rfl
theorem before_3 (c : Dev nD) (d) : (dats m ρ 0 c).before (3 : Fin 6) t0_0 d = x3 m ρ c := by
  unfold Dat.before
  rw [if_pos (fetch0_3 t0_0)]
  rfl
theorem before_4 (c : Dev nD) (d) : (dats m ρ 0 c).before (4 : Fin 6) t0_0 d = x4 m ρ c := by
  unfold Dat.before
  rw [if_pos (fetch0_4 t0_0)]
  rfl

theorem owes_in (c : Dev nD) : (dats m ρ 0 c).owesAt () t0_0.castSucc ⊢ (iprop(∃ W, owes (c : Thread nD τ) (O₀ c) W) : sProp 𝕄) := by
  unfold Dat.owesAt Pipeline.owesWithin
  iintro ⟨%W, -, H⟩
  iexists W
  iexact H

theorem owes_out (c : Dev nD) : (iprop(∃ W, owes (c : Thread nD τ) 0 W) : sProp 𝕄) ⊢ (dats m ρ 0 c).owesAt () t0_0.succ := by
  unfold Dat.owesAt Pipeline.owesWithin
  iintro ⟨%W, H⟩
  iexists W
  isplitr; · (ipureintro; exact fun _ _ => Or.inl trivial)
  iexact H

theorem post_of (c : Dev nD) :
    iprop(blocks c (x0 m ρ c) (x1 m ρ c) (x2 m ρ c) (x3 m ρ c) (x4 m ρ c) (outAt m ρ c) ∗ leaves c) ⊢ bodyPost m ρ c := by
  unfold blocks leaves bodyPost Φ₁
  iintro ⟨⟨H0, H1, H2, H3, H4, H5⟩, HW, Hs0, Hs1, Hz⟩
  isplitl [Hs0 Hs1 Hz]
  · isplitl [Hs0]; · iexact Hs0
    isplitl [Hs1] <;> iassumption
  isplitl [HW]; · iapply (owes_out m ρ c); iexact HW
  isplitl [H0]; · iapply (stg_of c cc0_stg0_0); iexact H0
  isplitl [H1]; · iapply (stg_of c cc0_stg1_0); iexact H1
  isplitl [H2]; · iapply (stg_of c cc0_stg2_0); iexact H2
  isplitl [H3]; · iapply (stg_of c cc0_stg3_0); iexact H3
  isplitl [H4]; · iapply (stg_of c cc0_stg4_0); iexact H4
  iapply (stg_of c cc0_stg5_0); iexact H5

set_option maxHeartbeats 800000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wpc (F := F) c (cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    commM (Memref.isWhole_whole _) mineM (Memref.isWhole_whole _) cc0_scratch2 cc0_scratch3 cc0_scratch4) (fun _ => bodyPost m ρ c)
  unfold bodyPre Φ₀ start
  simp only [before_0, before_1, before_2, before_3, before_4]
  iintro ⟨⟨⟨⟨%K, HK⟩, Ht⟩, Hs0, Hs1⟩, Ho, ⟨%d0, H0⟩, ⟨%d1, H1⟩, ⟨%d2, H2⟩, ⟨%d3, H3⟩, ⟨%d4, H4⟩, ⟨%d5, H5⟩⟩
  iapply (body_run (chk m ρ) K (x0 m ρ c) (x1 m ρ c) (x2 m ρ c) (x3 m ρ c) (x4 m ρ c) ((dats m ρ 0 c).before (5 : Fin 6) t0_0 d5) c rfl
    (Q := fun _ => bodyPost m ρ c) (post_of m ρ c))
  isplitl [HK]; · iexact HK
  isplitl [Ht]; · iexact Ht
  isplitl [Ho]; · iapply (owes_in m ρ c); iexact Ho
  isplitl [Hs0]; · iexact Hs0
  isplitl [Hs1]; · iexact Hs1
  unfold blocks
  isplitl [H0]; · iapply (of_stg c cc0_stg0_0); iexact H0
  isplitl [H1]; · iapply (of_stg c cc0_stg1_0); iexact H1
  isplitl [H2]; · iapply (of_stg c cc0_stg2_0); iexact H2
  isplitl [H3]; · iapply (of_stg c cc0_stg3_0); iexact H3
  isplitl [H4]; · iapply (of_stg c cc0_stg4_0); iexact H4
  iapply (of_stg c cc0_stg5_0); iexact H5

end Cert.Exchange

end
-- ==== Proof.Dealt.lean ====
/-
# Dealing out the exchange

At launch every device gets, for each of its cells, the cell's bookkeeping and the right to pay into it once.  The rights
to pay are handed on: a device pays into its partners' ready and here cells, so it is given the rights of those.
-/
module

public import proofs.«01_k».proof.Proof.Point

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (ch : Dev nD → S128x512.Idx → Elt F .fp8e4m3)

/-! ## The cells and the rights as minted -/

def exCells : Finset (GSem nD τ sig) := Finset.univ.map ⟨kcell, kcell_injective⟩

abbrev tokOf (x : Dev nD × Kind) : GSem nD τ sig × ℕ × Unit := (kcell x, 0, ())
theorem tokOf_injective : Function.Injective tokOf := fun _ _ h => kcell_injective (congrArg Prod.fst h)
def exToks : Finset (GSem nD τ sig × ℕ × Unit) := Finset.univ.map ⟨tokOf, tokOf_injective⟩

def u₀ : UU :=
  (initOf (Pipeline.cells cfgs cellOf_inj) (Pipeline.launchToks cfgs cellOf_inj), initOf exCells exToks)

/-- What the launch deals device `c`. -/
def G (c : Dev nD) : sProp 𝕄 :=
  iprop((bigSep Finset.univ fun k : Kind => roundState ER (plan ch) (kcell (c, k)) 0)
    ∗ (bigSep Finset.univ fun k : Kind => iprop(atPos ER (kcell (c, k)) 0 ∅ 0 ∗ reached ER (kcell (c, k)) 0))
    ∗ bigSep Finset.univ fun k : Kind => dutyTok ER (kcell (c, k)) 0 ())

theorem fund_exchange : BI.own (ER (initOf exCells exToks)) ⊢ (|==> bigSep Finset.univ (G (F := F) ch) : sProp 𝕄) := by
  have hX (Φ : GSem nD τ sig → sProp 𝕄) :
      bigSep exCells Φ = bigSep Finset.univ fun c : Dev nD => bigSep Finset.univ fun k : Kind => Φ (kcell (c, k)) := by
    unfold exCells; rw [bigSep_map, bigSep_univ_prod]; rfl
  have hT : bigSep exToks (fun x => (dutyTok ER x.1 x.2.1 x.2.2 : sProp 𝕄))
      = bigSep Finset.univ fun c : Dev nD => bigSep Finset.univ fun k : Kind => dutyTok ER (kcell (c, k)) 0 () := by
    unfold exToks; rw [bigSep_map, bigSep_univ_prod]; rfl
  iintro HX
  imod (Rounds.fund ER (plan ch) exCells exToks) $$ HX with ⟨Hst, Hr, Hat, Htok⟩
  imodintro
  ihave Hst := (Entails.of_eq (hX fun g => roundState ER (plan ch) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

/-! ## The semaphores at launch -/

/-- The array of the kernel's own semaphores and the barrier semaphore are all the semaphores of the exchange. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem zeros_eq (c : Dev nD) :
    iprop(Pipeline.ownSems0 (Ix := Unit) (Name := ℕ) (U := UU) (Lvl := ℕ) (Val := Elt F) (τ := τ) osem c ∗ unscopedSems0 c)
      = (zeros c : sProp 𝕄) := by
  unfold zeros
  rw [unscopedSems0_eq, bigSep_univ_sum, show (Finset.univ : Finset Unit) = {()} from rfl, bigSep_singleton]
  rfl

/-- The shared record of a device's cells. -/
theorem cells_alloc (c : Dev nD) :
    iprop(Pipeline.ownSems0 (Ix := Unit) (Name := ℕ) (U := UU) (Lvl := ℕ) (Val := Elt F) (τ := τ) osem c ∗ unscopedSems0 c ∗ G ch c)
      ⊢ |={Set.univ}=> iprop((bigSep Finset.univ fun k : Kind => iprop(∃ κ : ℕ, cellInv ER (plan ch) κ (kcell (c, k))))
          ∗ (bigSep Finset.univ fun k : Kind => iprop(atPos ER (kcell (c, k)) 0 ∅ 0 ∗ reached ER (kcell (c, k)) 0))
          ∗ bigSep Finset.univ fun k : Kind => dutyTok ER (kcell (c, k)) 0 ()) := by
  unfold G
  iintro ⟨Hos, Hus, Hst, Hat, Htok⟩
  ihave Hv := (Entails.of_eq (zeros_eq (F := F) c)) $$ [Hos Hus]
  · isplitl [Hos] <;> iassumption
  imod (show iprop((zeros c : sProp 𝕄) ∗ bigSep Finset.univ fun k : Kind => roundState ER (plan ch) (kcell (c, k)) 0)
      ⊢ (|={Set.univ}=> bigSep Finset.univ fun k : Kind => iprop(∃ κ : ℕ, cellInv ER (plan ch) κ (kcell (c, k))) : sProp 𝕄) from by
        unfold zeros
        rw [← bigSep_sep']
        exact (bigSep_mono fun k _ => (Rounds.body_intro ER (plan ch) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The rights handed on -/

/-- What every device may know of all the cells. -/
def record (K : Dev nD × Kind → ℕ) : sProp 𝕄 :=
  bigSep Finset.univ fun x : Dev nD × Kind => iprop(cellInv ER (plan (F := F) ch) (K x) (kcell x) ∗ reached ER (kcell x) 0)

instance record_persistent (K : Dev nD × Kind → ℕ) : BI.Persistent (record (F := F) ch K) := by unfold record; infer_instance

/-- The rights device `c` pays with. -/
def rights (c : Dev nD) : sProp 𝕄 :=
  iprop(dutyTok ER (barCell c) 0 () ∗ bigSep (Finset.univ.erase c) (fun j => dutyTok ER (rdyCell j c) 0 ())
    ∗ bigSep (Finset.univ.erase c) (fun j => dutyTok ER (sndCell c j) 0 ()) ∗ bigSep (Finset.univ.erase c) (fun j => dutyTok ER (rcvCell j c) 0 ()))

/-- A right for every other device's cell goes to that device. -/
theorem hand_on (i : Fin 3) :
    (bigSep Finset.univ fun c : Dev nD => bigSep Finset.univ fun j : Dev nD => dutyTok ER (kcell (c, .inl (i, j))) 0 () : sProp 𝕄)
      ⊢ bigSep Finset.univ fun c : Dev nD => bigSep (Finset.univ.erase c) fun j => dutyTok ER (kcell (j, .inl (i, c))) 0 () := by
  rw [← bigSep_erase_comm (fun c j : Dev nD => (dutyTok ER (kcell (c, .inl (i, j))) 0 () : sProp 𝕄))]
  exact bigSep_mono fun c _ => bigSep_subset (Finset.erase_subset _ _)

theorem rights_dealt :
    (bigSep Finset.univ fun c : Dev nD => bigSep Finset.univ fun k : Kind => dutyTok ER (kcell (c, k)) 0 () : sProp 𝕄)
      ⊢ bigSep Finset.univ fun c : Dev nD => rights c := by
  unfold rights
  simp only [kinds_eq, bigSep_sep']
  iintro ⟨⟨H0, H1, H2⟩, H3⟩
  isplitl [H3]; · iexact H3
  isplitl [H0]; · iapply (hand_on (F := F) 0); iexact H0
  isplitl [H1]
  · iapply (show (bigSep Finset.univ fun c : Dev nD => bigSep Finset.univ fun j : Dev nD => dutyTok ER (sndCell c j) 0 () : sProp 𝕄)
        ⊢ bigSep Finset.univ fun c : Dev nD => bigSep (Finset.univ.erase c) fun j => dutyTok ER (sndCell c j) 0 () from
      bigSep_mono fun c _ => bigSep_subset (Finset.erase_subset _ _))
    iexact H1
  iapply (hand_on (F := F) 2); iexact H2

/-- What the dealing leaves with device `c`. -/
def G' (c : Dev nD) : sProp 𝕄 :=
  iprop((∃ K, record ch K) ∗ (bigSep Finset.univ fun k : Kind => atPos ER (kcell (c, k)) 0 ∅ 0) ∗ rights (F := F) c)

theorem with_record (K : Dev nD × Kind → ℕ) (c : Dev nD) :
    iprop(record ch K ∗ (bigSep Finset.univ fun k : Kind => atPos ER (kcell (c, k)) 0 ∅ 0) ∗ rights (F := F) c) ⊢ G' ch c := by
  unfold G'
  iintro ⟨H1, H2⟩
  isplitl [H1]; · iexists K; iexact H1
  iexact H2

theorem regroup :
    (bigSep Finset.univ fun c : Dev nD => iprop((bigSep Finset.univ fun k : Kind => iprop(∃ κ : ℕ, cellInv ER (plan ch) κ (kcell (c, k))))
          ∗ (bigSep Finset.univ fun k : Kind => iprop(atPos ER (kcell (c, k)) 0 ∅ 0 ∗ reached ER (kcell (c, k)) 0))
          ∗ bigSep Finset.univ fun k : Kind => dutyTok ER (kcell (c, k)) 0 ()) : sProp 𝕄)
      ⊢ bigSep Finset.univ (G' ch) := by
  simp only [bigSep_sep']
  iintro ⟨HI, ⟨Hat, HR⟩, Htok⟩
  ihave HI := (Entails.of_eq (bigSep_univ_prod (fun x : Dev nD × Kind => (iprop(∃ κ : ℕ, cellInv ER (plan ch) κ (kcell x)) : sProp 𝕄))).symm) $$ HI
  ihave HR := (Entails.of_eq (bigSep_univ_prod (fun x : Dev nD × Kind => (reached ER (kcell x) 0 : sProp 𝕄))).symm) $$ HR
  ihave HK := (BI.bigSep_exists_pi Finset.univ (fun (x : Dev nD × Kind) (κ : ℕ) => (cellInv ER (plan ch) κ (kcell x) : sProp 𝕄))) $$ HI
  icases HK with ⟨%K, HI⟩
  ihave Htok := (rights_dealt (F := F)) $$ Htok
  iapply (show iprop(record ch K ∗ bigSep Finset.univ fun c : Dev nD => iprop((bigSep Finset.univ fun k : Kind => atPos ER (kcell (c, k)) 0 ∅ 0) ∗ rights (F := F) c))
      ⊢ bigSep Finset.univ (G' ch) from by
    refine BIBase.Entails.trans (sep_mono_left (BI.bigSep_of_persistent (Finset.univ : Finset (Dev nD)) (record ch K))) ?_
    rw [← bigSep_sep']
    exact bigSep_mono fun c _ => with_record ch K c)
  isplitl [HI HR]
  · unfold record
    rw [bigSep_sep']
    isplitl [HI] <;> iassumption
  rw [bigSep_sep']
  isplitl [Hat] <;> iassumption

/-- The dealing, for all devices at once. -/
theorem dealt : (bigSep Finset.univ fun c : Dev nD => iprop(Pipeline.ownSems0 (Ix := Unit) (Name := ℕ) (U := UU) (Lvl := ℕ) (Val := Elt F) (τ := τ) osem c
      ∗ unscopedSems0 c ∗ G ch c) : sProp 𝕄)
    ⊢ |={Set.univ}=> bigSep Finset.univ (G' ch) :=
  ((bigSep_mono fun c _ => cells_alloc ch c).trans (bigSep_fupd _ _)).trans (BI.fupd_mono (regroup ch))

end Cert.Exchange

end
-- ==== Proof.Owed.lean ====
/-
# What is owed at launch

Every cell that a device waits for is owed to it at launch: its barrier by itself, its ready and here cells each by the
partner they are for.
-/
module

public import proofs.«01_k».proof.Proof.Dealt

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

/-! ## How much each device owes a cell -/

/-- Device `d` owes the cell of kind `i` of device `c` with partner `j` the amount `a` if it is that partner. -/
theorem debt_cell (i : Fin 3) (a : ℕ) (d c j : Dev nD) (h : j ≠ c) :
    debt i a d 0 (kcell (c, .inl (i, j))) () = if d = j then a else 0 := by
  rw [debt_apply]
  by_cases e : d = j
  · subst e
    rw [if_pos rfl, Finset.sum_eq_single c]
    · rw [if_pos rfl]
    · intro b _ hb
      exact if_neg fun h' => hb (congrArg (fun x : Dev nD × Kind => x.1) (kcell_injective h')).symm
    · intro hc
      exact absurd (Finset.mem_filter.mpr ⟨Finset.mem_univ _, Nat.zero_le _, fun e => h e.symm⟩) hc
  · rw [if_neg e]
    refine Finset.sum_eq_zero fun b _ => if_neg fun h' => e ?_
    have := Prod.ext_iff.mp (Sum.inl.inj (congrArg (fun x : Dev nD × Kind => x.2) (kcell_injective h')))
    exact this.2.symm

/-- Nothing is owed to the cells of another kind. -/
theorem debt_other (i : Fin 3) (a : ℕ) (d : Dev nD) (x : Dev nD × Kind) (h : ∀ j, x.2 ≠ .inl (i, j)) : debt i a d 0 (kcell x) () = 0 := by
  rw [debt_apply]
  exact Finset.sum_eq_zero fun b _ => if_neg fun h' => h d (congrArg (fun x : Dev nD × Kind => x.2) (kcell_injective h'))

theorem bar_cell (d c : Dev nD) : (tallyAt (barCell d) () 1 : CellTallies nD τ sig Unit) (barCell c) () = if d = c then 1 else 0 := by
  rw [tallyAt_apply]
  by_cases h : d = c
  · subst h; rw [if_pos ⟨rfl, rfl⟩, if_pos rfl]
  · rw [if_neg (fun ⟨h1, _⟩ => h (congrArg (fun x : Dev nD × Kind => x.1) (kcell_injective h1)).symm), if_neg h]

theorem bar_other (d : Dev nD) (x : Dev nD × Kind) (h : x.2 ≠ .inr ()) : (tallyAt (barCell d) () 1 : CellTallies nD τ sig Unit) (kcell x) () = 0 := by
  rw [tallyAt_apply]
  exact if_neg fun ⟨h1, _⟩ => h (congrArg (fun x : Dev nD × Kind => x.2) (kcell_injective h1))

theorem owed_split (d : Dev nD) (g : GSem nD τ sig) :
    O₀ d g () = debt 2 N d 0 g () + debt 0 1 d 0 g () + (tallyAt (barCell d) () 1 : CellTallies nD τ sig Unit) g () := by
  unfold O₀ debtRdy
  rw [Pi.add_apply, Finsupp.add_apply, Pi.add_apply, Finsupp.add_apply]

theorem owed_bar (d c : Dev nD) : O₀ d (barCell c) () = if d = c then 1 else 0 := by
  rw [owed_split, debt_other 2 N d (c, .inr ()) (fun j h => by cases h), debt_other 0 1 d (c, .inr ()) (fun j h => by cases h), bar_cell]
  rw [Nat.add_zero, Nat.zero_add]

theorem owed_rdy (d c j : Dev nD) (h : j ≠ c) : O₀ d (rdyCell c j) () = if d = j then 1 else 0 := by
  rw [owed_split, debt_other 2 N d (c, .inl (0, j)) (fun j' h => by cases h), debt_cell 0 1 d c j h, bar_other d (c, .inl (0, j)) (fun h => by cases h)]
  rw [Nat.add_zero, Nat.zero_add]

theorem owed_rcv (d c j : Dev nD) (h : j ≠ c) : O₀ d (rcvCell c j) () = if d = j then N else 0 := by
  rw [owed_split, debt_cell 2 N d c j h, debt_other 0 1 d (c, .inl (2, j)) (fun j' h => by cases h), bar_other d (c, .inl (2, j)) (fun h => by cases h)]; simp only [Nat.add_zero]

/-! ## The credit of a cell -/

/-- A cell's credit at launch, when one device owes it. -/
theorem credit_cell (g : GSem nD τ sig) (j : Dev nD) (a : ℕ) (h : ∀ d, O₀ d g () = if d = j then a else 0) :
    tallyOn g (launchCredit (Pipeline.owing O₀) 0 g) = (tallyAt g () a : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ j fun _ => a,
    if_pos (Finset.mem_univ _)]

/-- A device's credits. -/
def credits (c : Dev nD) : sProp 𝕄 :=
  iprop((bigSep (Finset.univ.erase c) fun j => cred (tallyAt (rdyCell c j) () 1)) ∗ (bigSep (Finset.univ.erase c) fun j => cred (tallyAt (rcvCell c j) () N))
    ∗ cred (tallyAt (barCell c) () 1))

/-- The credits of a device's cells of one kind. -/
theorem credit_kind (c : Dev nD) (i : Fin 3) (a : ℕ) (h : ∀ d j, j ≠ c → O₀ d (kcell (c, .inl (i, j))) () = if d = j then a else 0) :
    (bigSep (Finset.univ.erase c) fun j : Dev nD =>
        cred (tallyOn (kcell (c, .inl (i, j))) (launchCredit (Pipeline.owing O₀) 0 (kcell (c, .inl (i, j))))) : sProp 𝕄)
      ⊢ bigSep (Finset.univ.erase c) fun j => cred (tallyAt (kcell (c, .inl (i, j))) () a) :=
  bigSep_mono fun j hj => Entails.of_eq (congrArg cred (credit_cell _ j a fun d => h d j (Finset.ne_of_mem_erase hj)))

theorem credits_at_launch (c : Dev nD) : (Pipeline.launchCred O₀ c : sProp 𝕄) ⊢ credits c := by
  unfold Pipeline.launchCred
  refine BIBase.Entails.trans (bigSep_subset (Finset.subset_univ (Finset.univ.map (⟨csem, csem_injective⟩ : Kind ↪ SemLoc sig)))) ?_
  rw [bigSep_map, kinds_eq]
  unfold credits
  refine BIBase.Entails.trans (BIClass.sep_mono (BIClass.sep_mono (bigSep_subset (Finset.erase_subset c _))
    (sep_mono_right (bigSep_subset (Finset.erase_subset c _)))) .rfl) ?_
  iintro ⟨⟨H0, -, H2⟩, H3⟩
  isplitl [H0]
  · iapply (credit_kind (F := F) c 0 1 fun d j => owed_rdy d c j)
    iexact H0
  isplitl [H2]
  · iapply (credit_kind (F := F) c 2 N fun d j => owed_rcv d c j)
    iexact H2
  iapply (Entails.of_eq (congrArg cred (credit_cell (barCell c) c 1 fun d => owed_bar d c)))
  iexact H3

/-! ## What a device starts with -/

theorem positions (c : Dev nD) (i : Fin 3) :
    (bigSep Finset.univ fun j : Dev nD => atPos ER (kcell (c, .inl (i, j))) 0 ∅ 0 : sProp 𝕄)
      ⊢ iprop(atPos ER (kcell (c, .inl (i, c))) 0 ∅ 0 ∗ bigSep (Finset.univ.erase c) fun j => atPos ER (kcell (c, .inl (i, j))) 0 ∅ 0) :=
  Entails.of_eq (bigSep_erase (Finset.mem_univ c))

theorem tools_of (c : Dev nD) :
    iprop((bigSep Finset.univ fun k : Kind => atPos ER (kcell (c, k)) 0 ∅ 0) ∗ rights (F := F) c ∗ credits c) ⊢ tools (F := F) c := by
  rw [kinds_eq]
  unfold rights credits tools barTools idle
  iintro ⟨⟨⟨P0, P1, P2⟩, P3⟩, ⟨R3, R0, R1, R2⟩, C0, C2, C3⟩
  ihave P0 := (positions (F := F) c 0) $$ P0
  ihave P1 := (positions (F := F) c 1) $$ P1
  ihave P2 := (positions (F := F) c 2) $$ P2
  icases P0 with ⟨P0c, P0⟩
  icases P1 with ⟨P1c, P1⟩
  icases P2 with ⟨P2c, P2⟩
  isplitl [P3 R3 C3]
  · isplitl [P3]; · iexact P3
    isplitl [R3] <;> iassumption
  isplitl [R0]; · iexact R0
  isplitl [P0 C0 R1 R2]
  · unfold cpyTools
    simp only [bigSep_sep']
    isplitl [P0]; · iexact P0
    isplitl [C0]; · iexact C0
    isplitl [R1] <;> iassumption
  isplitl [P2 C2]
  · unfold arrTodo
    simp only [bigSep_sep']
    isplitl [P2] <;> iassumption
  isplitl [P1]; · iexact P1
  isplitl [P0c]; · iexact P0c
  isplitl [P1c] <;> iassumption

end Cert.Exchange

end
-- ==== Proof.Launch.lean ====
/-
# The run

The kernel's run on all devices: it ends, every result array holds what was computed, and every semaphore is at zero.
-/
module

public import proofs.«01_k».proof.Proof.Owed
public import Idealize.ShloMosaic.Lib.Pipeline.CollectiveSegs
public import Idealize.ShloMosaic.Adequacy
public import Idealize.ShloMosaic.Init

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-! ## The conditions of the launch -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (chk m ρ) c)
      ⊢ |={Set.univ}=> iprop(start m ρ c ∗ emp) := by
  unfold G'
  iintro ⟨-, Hlev, Hcr, -, ⟨%K, HK⟩, Hat, Hr⟩
  ihave Hc := (credits_at_launch (F := F) c) $$ Hcr
  imodintro
  unfold start known
  isplitl
  · isplitl [HK Hlev]
    · iexists K
      isplitl [HK]
      · unfold record; iexact HK
      iexact Hlev
    iapply (tools_of (F := F) c)
    isplitl [Hat]; · iexact Hat
    isplitl [Hr] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, H0, H1⟩
  isplitl [Hs]; · iexact Hs
  isplitl [H0] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨H0, H1, Hz⟩
  ihave Hz := (Entails.of_eq (zeros_eq (F := F) c).symm) $$ Hz
  icases Hz with ⟨Ho, Hu⟩
  isplitl [Hu]; · iexact Hu
  isplitl [Ho]; · iexact Ho
  isplitl [H0] <;> iassumption

theorem dec_none (sl : SemLoc sig) (h : ∀ k, csem k ≠ sl) : dec sl = none := by
  unfold dec
  exact dif_neg fun ⟨k, hk⟩ => h k hk

theorem stage_free : ∀ (w : Fin cfg0.W) (s : Fin (cfg0.win w).nbuf) (k : Kind), csem k ≠ .dma ((cfg0.win w).sem s) := by decide +kernel

theorem owed_ranked (c : Dev nD) (g : GSem nD τ sig) (h : 0 < O₀ c g ()) : ∃ x : Dev nD × Kind, g = kcell x ∧ 0 < rank (some x.2) := by
  rw [owed_split] at h
  rcases Nat.eq_zero_or_pos (debt 2 N c 0 g ()) with h2 | h2
  · rcases Nat.eq_zero_or_pos (debt 0 1 c 0 g ()) with h0 | h0
    · rw [h2, h0, tallyAt_apply] at h
      by_cases e : g = barCell c ∧ () = ()
      · exact ⟨(c, .inr ()), e.1, Nat.one_pos⟩
      · rw [if_neg e] at h; exact absurd h (Nat.lt_irrefl 0)
    · obtain ⟨j, rfl⟩ := debt_pos h0
      exact ⟨_, rfl, Nat.succ_pos 1⟩
  · obtain ⟨j, rfl⟩ := debt_pos h2
    exact ⟨_, rfl, Nat.succ_pos 2⟩

theorem waits (c : Dev nD) : (levAts L lv : sProp 𝕄) ⊢ Pipeline.cellsWaits cfgs (dats m ρ) () 0 c :=
  Pipeline.cellsWaits_intro cfgs (dats m ρ) () 0 c fun w s t =>
    mayWait_of c _ 0 (by rw [dec_none _ (stage_free w s)]; exact le_rfl) _ fun g hg => by
      rcases t with ⟨_ | _, ht⟩
      · exact owed_ranked c g hg
      · exact absurd hg (Nat.lt_irrefl 0)

/-! ## The run -/

def finalA (c : Dev nD) (w : Fin cfg0.W) : Buf (Elt F) ((cfg0.win w).arr.view.loc (c : Thread nD τ)) := (dats m ρ 0 c).arrAt w cfg0.N

/-- Every array ends as computed. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 65536 in
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (chk m ρ)) (G' := G' (chk m ρ)) (u₀ := u₀)
    (hu₀ := by
      unfold u₀
      iintro Hu
      ihave H := (ownU_pair _ _) $$ Hu
      icases H with ⟨HP, HX⟩
      imod (fund_exchange (chk m ρ)) $$ HX with HG
      imodintro
      isplitl [HP] <;> iassumption)
    (hglob := dealt (chk m ρ))
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- An argument's array ends as it was. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.Exchange

end
-- ==== Proof.Arrays.lean ====
/-
# The arrays after the run

A window's block is its whole array: the blocks the body reads are the arguments, and the block it writes is the result.
-/
module

public import proofs.«01_k».proof.Proof.Launch

@[expose] public section

set_option maxRecDepth 16384

noncomputable section

namespace Cert.Exchange

open Cert.KernelIdeal Cert.KernelIdeal.Gen

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem x0_eq (c : Dev nD) : x0 m ρ c = m ((c : Thread nD τ).loc main_arg0) := by
  have hz : (fun a => (win0_0.index (0 : Fin 1)) a * main_arg0.ty.shape.size a) = fun _ => 0 := funext fun a => by fin_cases a <;> decide
  exact Memref.read_access_unit_zero (Elt F) main_arg0 hz (fun a => by fin_cases a <;> decide) _

theorem x1_eq (c : Dev nD) : x1 m ρ c = m ((c : Thread nD τ).loc main_arg1) := by
  have hz : (fun a => (win0_1.index (0 : Fin 1)) a * main_arg1.ty.shape.size a) = fun _ => 0 := funext fun a => by fin_cases a <;> decide
  exact Memref.read_access_unit_zero (Elt F) main_arg1 hz (fun a => by fin_cases a <;> decide) _

theorem x2_eq (c : Dev nD) : x2 m ρ c = m ((c : Thread nD τ).loc main_arg2) := by
  have hz : (fun a => (win0_2.index (0 : Fin 1)) a * main_arg2.ty.shape.size a) = fun _ => 0 := funext fun a => by fin_cases a <;> decide
  exact Memref.read_access_unit_zero (Elt F) main_arg2 hz (fun a => by fin_cases a <;> decide) _

theorem x3_eq (c : Dev nD) : x3 m ρ c = m ((c : Thread nD τ).loc main_arg3) := by
  have hz : (fun a => (win0_3.index (0 : Fin 1)) a * main_arg3.ty.shape.size a) = fun _ => 0 := funext fun a => by fin_cases a <;> decide
  exact Memref.read_access_unit_zero (Elt F) main_arg3 hz (fun a => by fin_cases a <;> decide) _

theorem x4_eq (c : Dev nD) : x4 m ρ c = m ((c : Thread nD τ).loc main_arg4) := by
  have hz : (fun a => (win0_4.index (0 : Fin 1)) a * main_arg4.ty.shape.size a) = fun _ => 0 := funext fun a => by fin_cases a <;> decide
  exact Memref.read_access_unit_zero (Elt F) main_arg4 hz (fun a => by fin_cases a <;> decide) _

/-- The result array ends as computed. -/
theorem finalA_out (c : Dev nD) : finalA m ρ c (5 : Fin 6) = outAt m ρ c := by
  have hz : (fun a => (win0_5.index (0 : Fin 1)) a * main_v1.ty.shape.size a) = fun _ => 0 := funext fun a => by fin_cases a <;> decide
  have hr := fun f => Memref.read_access_unit_zero (Elt F) main_v1 hz (fun a => by fin_cases a <;> decide) f
  have h : (win0_5.blk (0 : Fin 1)).view.read (Elt F) (finalA m ρ c (5 : Fin 6)) = outAt m ρ c := by
    unfold finalA
    rw [show cfg0.N = ((0 : Fin 1) : Fin cfg0.N).val + 1 from rfl, (dats m ρ 0 c).arrAt_succ (5 : Fin 6) (0 : Fin 1)]
    rw [show (cfg0.win (5 : Fin 6)).flush (0 : Fin 1) = true from by decide, if_pos rfl]
    exact View.read_write_univ _ _
  exact (hr _).symm.trans h

/-- The run, in the arguments and the result. -/
theorem run_arrays : θ_run defs (onTc (τ := τ) (main (F := F))) (s₀ m ρ) (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun _ h => ⟨fun c =>
    ⟨(h.1 c (5 : Fin 6)).trans (finalA_out m ρ c), (h.1 c (0 : Fin 6)).trans (finalA_in m ρ c (0 : Fin 6) rfl),
      (h.1 c (1 : Fin 6)).trans (finalA_in m ρ c (1 : Fin 6) rfl), (h.1 c (2 : Fin 6)).trans (finalA_in m ρ c (2 : Fin 6) rfl),
      (h.1 c (3 : Fin 6)).trans (finalA_in m ρ c (3 : Fin 6) rfl), (h.1 c (4 : Fin 6)).trans (finalA_in m ρ c (4 : Fin 6) rfl)⟩, h.2⟩)
    (run_main m ρ)

end Cert.Exchange

end
-- ==== Proof.Frames.lean ====
/-
# The frames

Each program runs to its end, leaves its arguments as they were and every semaphore at zero.  The kernel and its
idealization have the same text, and the run is proved for any values of the floats, so one run serves both.
-/
module

public import proofs.«01_k».proof.Proof.Arrays
public import proofs.«01_k».proof.Proof.Gen.Kernel
public import proofs.«01_k».proof.Proof.Gen.ReferenceIdeal.Run
public import proofs.«01_k».proof.Defs

@[expose] public section

noncomputable section

namespace Cert.Frames

open Idealize.ShloMosaic Idealize.SL.Sem

theorem kernelIdeal : Cert.quiescent_KernelIdeal := fun m ρ _ =>
  (θ_run Cert.KernelIdeal.defs _ _).mono (fun _ h => ⟨fun c => (h.1 c).2, h.2⟩) (Cert.Exchange.run_arrays (F := Ideal) m ρ)

/-- The two programs' tables of bodies are one. -/
theorem bodies_same : Cert.Kernel.defs₀ (F := Bits) = Cert.KernelIdeal.defs₀ (F := Bits) := by
  unfold Cert.Kernel.defs₀ Cert.KernelIdeal.defs₀
  refine congrArg _ ?_
  funext l a
  match l, a with
  | 0, (t, s) => rfl

theorem defs_same : Cert.Kernel.defs (F := Bits) = Cert.KernelIdeal.defs (F := Bits) :=
  congrArg (Pipeline.defs (Cert.KernelIdeal.pcfgs (F := Bits))) bodies_same

theorem kernel : Cert.quiescent_Kernel := fun m ρ _ => by
  rw [defs_same]
  exact (θ_run Cert.KernelIdeal.defs _ _).mono (fun _ h => ⟨fun c => (h.1 c).2, h.2⟩) (Cert.Exchange.run_arrays (F := Bits) m ρ)

theorem reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Frames

end
-- ==== Proof.Pairs.lean ====
/-
# One pair of experts at a time

The kernel takes the sixteen slabs in order.  Each slab holds two experts; the kernel multiplies its tokens by the slab and adds the left half
times the gate of the tokens sent to the first expert, then the right half times the gate of the tokens sent to the second.
-/
module

public import proofs.«01_k».proof.Proof.Body

@[expose] public section

set_option maxRecDepth 16384

noncomputable section

namespace Cert.Value

open Cert.KernelIdeal Cert.KernelIdeal.Gen Cert.Exchange
open Idealize.ShloMosaic

variable {F : FTy → Type} [FloatOps F]

/-- The tokens times one slab. -/
def product (x : FVec F S256x128 .bf16) (S : Vec F S1x128x512 .fp8e4m3) : FVec F S256x512 .f32 :=
  matmul dot_S256x128_S128x512_S256x512_1_0_0_1_n_n none x
    (extf .bf16 (shapeCast S128x512 S shapeCasts_S1x128x512_S128x512 : FVec F S128x512 .fp8e4m3) bitsLt_fp8e4m3_bf16)
    (constant S256x512 .f32 0x00000000#32)

/-- The gate of the tokens sent to expert `e`, zero at the others. -/
def masked (idx : IVec S256x1 32) (gate : FVec F S256x1 .f32) (e : BitVec 32) : FVec F S256x1 .f32 :=
  select (cmpi .eq idx (broadcast S256x1 e)) gate (broadcast S256x1 (Scalar.ofBits .f32 0x00000000#32 : F .f32))

/-- The result so far, with the share of experts `a` and `b` added. -/
def addPair (x : FVec F S256x128 .bf16) (idx : IVec S256x1 32) (gate : FVec F S256x1 .f32) (a b : BitVec 32)
    (S : Vec F S1x128x512 .fp8e4m3) (acc : FVec F S256x256 .f32) : FVec F S256x256 .f32 :=
  addf (addf acc (mulf (broadcastTo S256x256 (masked idx gate a) broadcasts_S256x1_S256x256)
      (extractStridedSlice S256x256 ![0, 0] (product x S) slices_S256x512_o0_0_S256x256)))
    (mulf (broadcastTo S256x256 (masked idx gate b) broadcasts_S256x1_S256x256)
      (extractStridedSlice S256x256 ![0, 256] (product x S) slices_S256x512_o0_256_S256x256))

/-- The result after the first `n` slabs. -/
def afterPairs (x : FVec F S256x128 .bf16) (idx : IVec S256x1 32) (gate : FVec F S256x1 .f32)
    (S : Dev nD → Vec F S1x128x512 .fp8e4m3) (acc : FVec F S256x256 .f32) : ℕ → FVec F S256x256 .f32
  | 0 => acc
  | n + 1 => if h : n < 16 then
      addPair x idx gate (BitVec.ofNat 32 (2 * n)) (BitVec.ofNat 32 (2 * n + 1)) (S ⟨n, h⟩) (afterPairs x idx gate S acc n)
    else afterPairs x idx gate S acc n

set_option maxHeartbeats 4000000 in
/-- The kernel's result: the shared product, then the sixteen slabs. -/
theorem result_eq (S : Dev nD → S1x128x512.Idx → Elt F .fp8e4m3) (X0 : FVec F S256x128 .bf16) (X1 : FVec F S128x32 .bf16)
    (X2 : IVec S256x1 32) (X4 : FVec F S128x256 .bf16) :
    result S X0 X1 X2 X4
      = afterPairs (k0_pay5 X0) (k0_pay6 (F := F) X2) (k0_pay7 (k0_pay5 X0) X1 X2) S (k0_pay8 (k0_pay5 X0) X4) 16 := rfl

end Cert.Value
-- ==== Proof.Token.lean ====
/-
# What one token's result is

The mathematics of the layer for one token, in extended reals: the scores against the router, their softmax, and the shared product plus the
chosen expert's product times that expert's probability.  A token whose choice names no expert gets the shared product alone.
-/
module

public import Idealize.ShloMosaic.Lib.Pointwise

@[expose] public section

noncomputable section

namespace Cert.Value

open Idealize.ShloMosaic

/-- The scores of one token. -/
def score (x : Fin 128 → EReal) (R : Fin 128 → Fin 32 → EReal) (e : Fin 32) : EReal := ∑ d, x d * R d e

/-- The exponential of a score less the greatest. -/
def weight (s : Fin 32 → EReal) (e : Fin 32) : EReal :=
  Ideal.exp (s e - Finset.univ.fold max (Ideal.ofBits .f32 0xFF800000#32) s)

/-- The softmax of the scores. -/
def prob (s : Fin 32 → EReal) (e : Fin 32) : EReal := Ideal.div (weight s e) (∑ e, weight s e)

/-- `f e` where the word `i` names expert `e`, zero where it names none. -/
def chosen (i : BitVec 32) (f : Fin 32 → EReal) : EReal := if h : i.toNat < 32 then f ⟨i.toNat, h⟩ else 0

/-- One token's result at column `h`. -/
def token (x : Fin 128 → EReal) (R : Fin 128 → Fin 32 → EReal) (i : BitVec 32) (W : Fin 32 → Fin 128 → Fin 256 → EReal)
    (T : Fin 128 → Fin 256 → EReal) (h : Fin 256) : EReal :=
  ∑ d, x d * T d h + chosen i fun e => prob (score x R) e * ∑ d, x d * W e d h

/-- A choice of one expert by comparing words. -/
theorem select_word (i : BitVec 32) (e : ℕ) (he : e < 32) (a b : EReal) :
    Scalar.select (IntOp.cmpi .eq i (BitVec.ofNat 32 e)) a b = if i.toNat = e then a else b := by
  have hiff : i = BitVec.ofNat 32 e ↔ i.toNat = e := by
    constructor
    · rintro rfl
      rw [BitVec.toNat_ofNat]
      exact Nat.mod_eq_of_lt (by omega)
    · rintro rfl
      simp
  by_cases h : i.toNat = e
  · rw [if_pos h, hiff.2 h]
    simp [IntOp.cmpi, Scalar.select]
  · rw [if_neg h]
    have h' : ¬ i = BitVec.ofNat 32 e := fun hh => h (hiff.1 hh)
    have hb : (i == BitVec.ofNat 32 e) = false := beq_eq_false_iff_ne.2 h'
    simp [IntOp.cmpi, Scalar.select, hb]

/-- The words compared the other way round. -/
theorem select_word' (i : BitVec 32) (e : ℕ) (he : e < 32) (a b : EReal) :
    Scalar.select (IntOp.cmpi .eq (BitVec.ofNat 32 e) i) a b = if i.toNat = e then a else b := by
  rw [← select_word i e he]
  simp only [IntOp.cmpi, eq_comm, Bool.beq_comm]

/-- The sum over the experts of what only the chosen one keeps. -/
theorem sum_chosen (i : BitVec 32) (f : Fin 32 → EReal) : (∑ e : Fin 32, if i.toNat = e.val then f e else 0) = chosen i f := by
  unfold chosen
  split
  · next h =>
    rw [Finset.sum_eq_single ⟨i.toNat, h⟩]
    · simp
    · intro e _ hne
      exact if_neg fun hh => hne (Fin.ext hh.symm)
    · intro hh; exact absurd (Finset.mem_univ _) hh
  · next h =>
    refine Finset.sum_eq_zero fun e _ => if_neg fun hh => h ?_
    rw [hh]; exact e.isLt

/-- A nonnegative finite factor comes out of a sum. -/
theorem sum_mul_const {ι : Type} (s : Finset ι) (f : ι → EReal) (c : EReal) (h0 : 0 ≤ c) (ht : c ≠ ⊤) :
    ∑ d ∈ s, c * f d = c * ∑ d ∈ s, f d := by
  classical
  induction s using Finset.induction_on with
  | empty => simp
  | insert a s ha ih => rw [Finset.sum_insert ha, Finset.sum_insert ha, ih, EReal.left_distrib_of_nonneg_of_ne_top h0 ht]

/-- The factor the table is scaled by is 32. -/
theorem factor_val : Ideal.ofBits .bf16 0x4200#16 = ((32 : ℝ) : EReal) := by
  simp [Ideal.ofBits, Ideal.ieee, -EReal.coe_mul]; norm_num

/-- The factor of the gate is its inverse. -/
theorem inverse_val : Ideal.ofBits .f32 0x3D000000#32 = ((1 / 32 : ℝ) : EReal) := by
  simp [Ideal.ofBits, Ideal.ieee, -EReal.coe_mul]; norm_num

/-- The two factors cancel: a gate over 32 times a product with a table times 32. -/
theorem scale_cancel (p : EReal) (x w : Fin 128 → EReal) :
    p * Ideal.ofBits .f32 0x3D000000#32 * ∑ d, x d * (w d * Ideal.ofBits .bf16 0x4200#16) = p * ∑ d, x d * w d := by
  have h1 : ∀ d, x d * (w d * Ideal.ofBits .bf16 0x4200#16) = ((32 : ℝ) : EReal) * (x d * w d) := fun d => by
    rw [factor_val, ← mul_assoc, mul_comm]
  simp only [h1]
  rw [sum_mul_const _ _ _ (by exact_mod_cast (by norm_num : (0 : ℝ) ≤ 32)) (EReal.coe_ne_top _), inverse_val, mul_assoc,
    ← mul_assoc ((1 / 32 : ℝ) : EReal), ← EReal.coe_mul]
  norm_num

end Cert.Value
-- ==== Proof.KernelValue.lean ====
/-
# What a device computes, at an index

The result of one device read at one of its tokens and one column: the token's result, when the slabs hold the experts' weights.
-/
module

public import proofs.«01_k».proof.Proof.Pairs
public import proofs.«01_k».proof.Proof.Token

@[expose] public section

set_option maxRecDepth 16384

noncomputable section

namespace Cert.Value

open Cert.KernelIdeal Cert.KernelIdeal.Gen Cert.Exchange
open Idealize.ShloMosaic
open Idealize.ShloMosaic.Pointwise

/-- The gate of a token: the chosen expert's probability, over 32. -/
theorem gate_apply (X0 : FVec Ideal S256x128 .bf16) (X1 : FVec Ideal S128x32 .bf16) (X2 : IVec S256x1 32) (r : Fin 256) :
    k0_pay7 (k0_pay5 (F := Ideal) X0) X1 X2 (ix2 r 0)
      = chosen (X2 (ix2 r 0)) (prob (score (fun d => X0 (ix2 r d)) fun d e => X1 (ix2 d e))) * Ideal.ofBits .f32 0x3D000000#32 := by
  rw [← sum_chosen]
  pointwise [k0_pay5, k0_pay6, k0_pay7]
  simp only [select_word' _ _ (Fin.isLt _)]
  rfl

/-- The shared product. -/
theorem shared_apply (X0 : FVec Ideal S256x128 .bf16) (X4 : FVec Ideal S128x256 .bf16) (r : Fin 256) (h : Fin 256) :
    k0_pay8 (F := Ideal) (k0_pay5 (F := Ideal) X0) X4 (ix2 r h) = ∑ d, X0 (ix2 r d) * X4 (ix2 d h) := by
  pointwise [k0_pay5, k0_pay8]

/-- The words of the choices are read as they are. -/
theorem choice_apply (X2 : IVec S256x1 32) (r : Fin 256) : k0_pay6 (F := Ideal) X2 (ix2 r 0) = X2 (ix2 r 0) := by
  pointwise [k0_pay6]

/-- One pair of experts added, at an index. -/
theorem addPair_apply (X0 : FVec Ideal S256x128 .bf16) (idx : IVec S256x1 32) (gate : FVec Ideal S256x1 .f32) (a b : ℕ) (ha : a < 32) (hb : b < 32)
    (S : Vec Ideal S1x128x512 .fp8e4m3) (acc : FVec Ideal S256x256 .f32) (r : Fin 256) (h : Fin 256) :
    addPair (k0_pay5 (F := Ideal) X0) idx gate (BitVec.ofNat 32 a) (BitVec.ofNat 32 b) S acc (ix2 r h)
      = acc (ix2 r h)
        + (if (idx (ix2 r 0)).toNat = a then
            gate (ix2 r 0) * ∑ d, X0 (ix2 r d) * S (ix3 0 d ⟨h.val, by omega⟩) else 0)
        + (if (idx (ix2 r 0)).toNat = b then
            gate (ix2 r 0) * ∑ d, X0 (ix2 r d) * S (ix3 0 d ⟨256 + h.val, by omega⟩) else 0) := by
  rw [← select_word _ _ ha, ← select_word _ _ hb]
  pointwise [addPair, masked, product, k0_pay5]

/-- The slab of a device, at an index: its first expert in the left half, its second in the right. -/
theorem slab_left (X3 : FVec Ideal S2x128x256 .bf16) (d : Fin 128) (h : Fin 256) :
    asSlab (chunk (F := Ideal) X3) (ix3 0 d ⟨h.val, by omega⟩) = X3 (ix3 0 d h) * Ideal.ofBits .bf16 0x4200#16 := by
  pointwise [asSlab, chunk, pair, factor, k0_pay1, k0_pay2, k0_pay3, expertAt]
  congr 1
  refine congrArg X3 ?_
  funext a; apply Fin.ext
  match a with | ⟨0, _⟩ => rfl | ⟨1, _⟩ => exact (Nat.zero_add _).trans (Nat.one_mul _) | ⟨2, _⟩ => exact (Nat.zero_add _).trans (Nat.one_mul _)

theorem slab_right (X3 : FVec Ideal S2x128x256 .bf16) (d : Fin 128) (h : Fin 256) :
    asSlab (chunk (F := Ideal) X3) (ix3 0 d ⟨256 + h.val, by omega⟩) = X3 (ix3 1 d h) * Ideal.ofBits .bf16 0x4200#16 := by
  pointwise [asSlab, chunk, pair, factor, k0_pay1, k0_pay2, k0_pay3, expertAt]
  congr 1
  refine congrArg X3 ?_
  funext a; apply Fin.ext
  match a with
  | ⟨0, _⟩ => rfl
  | ⟨1, _⟩ => exact (Nat.zero_add _).trans (Nat.one_mul _)
  | ⟨2, _⟩ => exact (Nat.zero_add _).trans (Nat.one_mul _)

/-- A sum over the experts below `2 (n + 1)` is the sum below `2 n` with two experts added, when at most one is not zero. -/
theorem below_step (i : BitVec 32) (n : ℕ) (hn : n < 16) (f : Fin 32 → EReal) :
    (if i.toNat < 2 * n then chosen i f else 0) + (if i.toNat = 2 * n then f ⟨2 * n, by omega⟩ else 0)
        + (if i.toNat = 2 * n + 1 then f ⟨2 * n + 1, by omega⟩ else 0)
      = if i.toNat < 2 * (n + 1) then chosen i f else 0 := by
  have key : ∀ k (hk : k < 32), i.toNat = k → chosen i f = f ⟨k, hk⟩ := by
    rintro k hk rfl
    exact dif_pos hk
  by_cases h1 : i.toNat < 2 * n
  · rw [if_pos h1, if_neg (by omega), if_neg (by omega), if_pos (by omega), add_zero, add_zero]
  · by_cases h2 : i.toNat = 2 * n
    · rw [if_neg h1, if_pos h2, if_neg (by omega), if_pos (by omega), add_zero, zero_add, key _ _ h2]
    · by_cases h3 : i.toNat = 2 * n + 1
      · rw [if_neg h1, if_neg h2, if_pos h3, if_pos (by omega), add_zero, zero_add, key _ _ h3]
      · rw [if_neg h1, if_neg h2, if_neg h3, if_neg (by omega), add_zero, add_zero]

variable (W : Fin 32 → Fin 128 → Fin 256 → EReal) (S : Dev nD → Vec Ideal S1x128x512 .fp8e4m3)

/-- The slabs hold the experts' weights times 32. -/
structure Holds : Prop where
  left : ∀ (s : Dev nD) (hs : 2 * s.val < 32) d (h : Fin 256), S s (ix3 0 d ⟨h.val, by omega⟩) = W ⟨2 * s.val, hs⟩ d h * Ideal.ofBits .bf16 0x4200#16
  right : ∀ (s : Dev nD) (hs : 2 * s.val + 1 < 32) d (h : Fin 256),
    S s (ix3 0 d ⟨256 + h.val, by omega⟩) = W ⟨2 * s.val + 1, hs⟩ d h * Ideal.ofBits .bf16 0x4200#16

variable {W S}

/-- After `n` slabs a token has its expert's share if its expert is in one of them. -/
theorem afterPairs_apply (hS : Holds W S) (X0 : FVec Ideal S256x128 .bf16) (idx : IVec S256x1 32) (gate : FVec Ideal S256x1 .f32)
    (acc : FVec Ideal S256x256 .f32) (r : Fin 256) (h : Fin 256) : ∀ n ≤ 16,
    afterPairs (k0_pay5 (F := Ideal) X0) idx gate S acc n (ix2 r h)
      = acc (ix2 r h) + if (idx (ix2 r 0)).toNat < 2 * n then
          chosen (idx (ix2 r 0)) fun e => gate (ix2 r 0) * ∑ d, X0 (ix2 r d) * (W e d h * Ideal.ofBits .bf16 0x4200#16) else 0
  | 0, _ => by rw [if_neg (by omega), add_zero]; rfl
  | n + 1, hn => by
    have hlt : n < 16 := hn
    have hw : afterPairs (k0_pay5 (F := Ideal) X0) idx gate S acc (n + 1)
        = addPair (k0_pay5 (F := Ideal) X0) idx gate (BitVec.ofNat 32 (2 * n)) (BitVec.ofNat 32 (2 * n + 1)) (S ⟨n, hlt⟩)
            (afterPairs (k0_pay5 (F := Ideal) X0) idx gate S acc n) := dif_pos hlt
    rw [hw, addPair_apply _ _ _ _ _ (by omega) (by omega), afterPairs_apply hS X0 idx gate acc r h n (by omega), ← below_step _ n hlt]
    simp only [hS.left ⟨n, hlt⟩ (show 2 * n < 32 by omega), hS.right ⟨n, hlt⟩ (show 2 * n + 1 < 32 by omega)]
    rw [add_assoc, add_assoc, add_assoc]

/-- A device's result at an index. -/
theorem result_apply (hS : Holds W S) (X0 : FVec Ideal S256x128 .bf16) (X1 : FVec Ideal S128x32 .bf16) (X2 : IVec S256x1 32)
    (X4 : FVec Ideal S128x256 .bf16) (r : Fin 256) (h : Fin 256) :
    result S X0 X1 X2 X4 (ix2 r h)
      = token (fun d => X0 (ix2 r d)) (fun d e => X1 (ix2 d e)) (X2 (ix2 r 0)) W (fun d h => X4 (ix2 d h)) h := by
  rw [result_eq, afterPairs_apply hS _ _ _ _ _ _ 16 le_rfl, shared_apply, choice_apply, gate_apply]
  unfold token
  refine congrArg _ ?_
  by_cases hi : (X2 (ix2 r 0)).toNat < 32
  · rw [if_pos (by omega)]
    unfold chosen
    rw [dif_pos hi, dif_pos hi, dif_pos hi]
    exact scale_cancel _ _ _
  · rw [if_neg (by omega)]
    unfold chosen
    rw [dif_neg hi]

end Cert.Value
-- ==== Proof.Gathers.lean ====
/-
# The reference's look-ups, at an index

The reference reads a token's probability and its expert's weights at the chosen number.  Each look-up at one index is the array at that number, when the number is in range.
-/
module

public import proofs.«01_k».proof.Proof.Token
public import proofs.«01_k».proof.Proof.Gen.ReferenceIdeal.Run

@[expose] public section

set_option maxRecDepth 16384

noncomputable section

namespace Cert.Value

open Cert.ReferenceIdeal Cert.ReferenceIdeal.Gen
open Idealize.ShloMosaic
open Idealize.ShloMosaic.Pointwise

variable {α : Type}

/-- One row's entry read at a pair of numbers. -/
theorem gather_pair (P : S4096x32.Idx → α) (ix : IVec S4096x2 32) (t : Fin 4096) :
    Host.gather gather_S4096x32_S4096x2_S4096_n_01_n_n_01_1_11 P ix (ix1 t)
      = P (ix2 ⟨min (ix (ix2 t 0)).toInt.toNat 4095, by omega⟩ ⟨min (ix (ix2 t 1)).toInt.toNat 31, by omega⟩) := by
  unfold Host.gather
  refine congrArg P ?_
  funext a
  refine Fin.ext ?_
  have hstart : ∀ (a : Fin 2) (ha : a ∈ gather_S4096x32_S4096x2_S4096_n_01_n_n_01_1_11.startIndexMap)
      (hc : a ∈ gather_S4096x32_S4096x2_S4096_n_01_n_n_01_1_11.collapsedSliceDims),
      (gather_S4096x32_S4096x2_S4096_n_01_n_n_01_1_11.operandIdx (ix1 t) ix a).val
        = min (ix (gather_S4096x32_S4096x2_S4096_n_01_n_n_01_1_11.siIdx (ix1 t)
            ⟨gather_S4096x32_S4096x2_S4096_n_01_n_n_01_1_11.startIndexMap.idxOf a, List.idxOf_lt_length_iff.2 ha⟩)).toInt.toNat
          (S4096x32.size a - gather_S4096x32_S4096x2_S4096_n_01_n_n_01_1_11.sliceSizes a) := fun a ha hc => by
    show gather_S4096x32_S4096x2_S4096_n_01_n_n_01_1_11.start (ix1 t) ix a
      + gather_S4096x32_S4096x2_S4096_n_01_n_n_01_1_11.batchCoord (ix1 t) a
      + gather_S4096x32_S4096x2_S4096_n_01_n_n_01_1_11.offCoord (ix1 t) a = _
    rw [GatherDims.batchCoord_eq_zero _ _ _ List.not_mem_nil, GatherDims.offCoord_eq_zero _ _ _ (fun h => ((GatherDims.mem_sKept _ _).mp h).1 hc)]
    simp only [Nat.add_zero]
    unfold GatherDims.start
    rw [dif_pos ha]
  match a with
  | ⟨0, _⟩ =>
    refine (hstart 0 (by decide) (by decide)).trans ?_
    refine congrArg (fun k => min (ix k).toInt.toNat 4095) ?_
    funext b; refine Fin.ext ?_
    match b with | ⟨0, _⟩ => rfl | ⟨1, _⟩ => rfl
  | ⟨1, _⟩ =>
    refine (hstart 1 (by decide) (by decide)).trans ?_
    refine congrArg (fun k => min (ix k).toInt.toNat 31) ?_
    funext b; refine Fin.ext ?_
    match b with | ⟨0, _⟩ => rfl | ⟨1, _⟩ => rfl

/-- One expert's weights read at a number. -/
theorem gather_expert (W : S32x128x256.Idx → α) (ix : IVec S4096x1 32) (t : Fin 4096) (d : Fin 128) (h : Fin 256) :
    Host.gather gather_S32x128x256_S4096x1_S4096x128x256_12_0_n_n_0_1_1128256 W ix (ix3 t d h)
      = W (ix3 ⟨min (ix (ix2 t 0)).toInt.toNat 31, by omega⟩ d h) := by
  unfold Host.gather
  refine congrArg W ?_
  funext a
  refine Fin.ext ?_
  show gather_S32x128x256_S4096x1_S4096x128x256_12_0_n_n_0_1_1128256.start (ix3 t d h) ix a
    + gather_S32x128x256_S4096x1_S4096x128x256_12_0_n_n_0_1_1128256.batchCoord (ix3 t d h) a
    + gather_S32x128x256_S4096x1_S4096x128x256_12_0_n_n_0_1_1128256.offCoord (ix3 t d h) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    refine congrArg (fun k => min (ix k).toInt.toNat 31) ?_
    funext b; refine Fin.ext ?_
    match b with | ⟨0, _⟩ => rfl | ⟨1, _⟩ => rfl
  | ⟨1, _⟩ =>
    unfold GatherDims.start
    exact (congrArg (· + _) (dif_neg (by decide +revert))).trans (Nat.zero_add _)
  | ⟨2, _⟩ =>
    unfold GatherDims.start
    exact (congrArg (· + _) (dif_neg (by decide +revert))).trans (Nat.zero_add _)

/-- A word below `2 ^ 31` read with its sign. -/
theorem toInt_small (i : BitVec 32) (h : i.toNat < 2 ^ 31) : i.toInt = i.toNat := by
  rw [BitVec.toInt_eq_toNat_cond, if_pos (by omega)]

/-- The test that a word is from 0 to `k`, passed. -/
theorem within_one (i : BitVec 32) (k : ℕ) (hk : k < 2 ^ 31) (h : i.toNat ≤ k) :
    IntOp.andi (IntOp.cmpi .sge i 0#32) (IntOp.cmpi .sle i (BitVec.ofNat 32 k)) = 1#1 := by
  have hb : (BitVec.ofNat 32 k).toNat = k := by rw [BitVec.toNat_ofNat]; exact Nat.mod_eq_of_lt (by omega)
  have h1 : (0#32).sle i = true := by rw [BitVec.sle_eq_decide, toInt_small i (by omega)]; simp
  have h2 : i.sle (BitVec.ofNat 32 k) = true := by
    rw [BitVec.sle_eq_decide, toInt_small i (by omega), toInt_small (BitVec.ofNat 32 k) (by omega), hb]
    exact decide_eq_true (by exact_mod_cast h)
  simp [IntOp.cmpi, IntOp.andi, h1, h2]

/-- The test that a word is from 0 to `k`, failed. -/
theorem within_zero (i : BitVec 32) (k : ℕ) (hk : k < 2 ^ 31) (h : k < i.toNat) :
    IntOp.andi (IntOp.cmpi .sge i 0#32) (IntOp.cmpi .sle i (BitVec.ofNat 32 k)) = 0#1 := by
  have hb : (BitVec.ofNat 32 k).toNat = k := by rw [BitVec.toNat_ofNat]; exact Nat.mod_eq_of_lt (by omega)
  by_cases hi : i.toNat < 2 ^ 31
  · have h2 : i.sle (BitVec.ofNat 32 k) = false := by
      rw [BitVec.sle_eq_decide, toInt_small i hi, toInt_small (BitVec.ofNat 32 k) (by omega), hb]
      exact decide_eq_false (by push_cast; omega)
    simp [IntOp.cmpi, IntOp.andi, h2]
  · have h1 : (0#32).sle i = false := by
      rw [BitVec.sle_eq_decide]
      have := i.isLt
      refine decide_eq_false ?_
      rw [BitVec.toInt_eq_toNat_cond i, if_neg (by omega)]
      simp; omega
    simp [IntOp.cmpi, IntOp.andi, h1]

/-- An `and` over two. -/
theorem and_two (f : Fin 2 → BitVec 1) : Finset.fold IntOp.andi 1#1 f Finset.univ = IntOp.andi (f 0) (f 1) := by
  have h : ∀ a b : BitVec 1, IntOp.andi a (IntOp.andi b 1#1) = IntOp.andi a b := by decide
  exact (show _ = IntOp.andi (f 0) (IntOp.andi (f 1) 1#1) from rfl).trans (h _ _)

/-- An `and` over one. -/
theorem and_one (f : Fin 1 → BitVec 1) : Finset.fold IntOp.andi 1#1 f Finset.univ = f 0 := by
  have h : ∀ a : BitVec 1, IntOp.andi a 1#1 = a := by decide
  exact (show _ = IntOp.andi (f 0) 1#1 from rfl).trans (h _)

end Cert.Value
-- ==== Proof.ReferenceValue.lean ====
/-
# What the reference computes, at an index

The reference's result at one token and one column is that token's result.
-/
module

public import proofs.«01_k».proof.Proof.Gathers

@[expose] public section

set_option maxRecDepth 16384

noncomputable section

namespace Cert.Value

open Cert.ReferenceIdeal Cert.ReferenceIdeal.Value Cert.ReferenceIdeal.Gen
open Idealize.ShloMosaic
open Idealize.ShloMosaic.TcCoe
open Idealize.ShloMosaic.Pointwise

/-! ## The pieces -/

/-- The scores against the router. -/
def scores (X0 : FVec Ideal S4096x128 .bf16) (X1 : FVec Ideal S128x32 .bf16) : FVec Ideal S4096x32 .f32 :=
  Host.dotGeneral dot_S4096x128_S128x32_S4096x32_1_0_0_1_n_n none (extf .f32 X0 bitsLt_bf16_f32) (extf .f32 X1 bitsLt_bf16_f32)

/-- The exponentials of the scores less the row's greatest. -/
def weights (s : FVec Ideal S4096x32 .f32) : FVec Ideal S4096x32 .f32 :=
  Host.exp (subf s (broadcastInDim S4096x32 ![0, 1] bcast_S4096x1_S4096x32_0_1 (broadcastInDim S4096x1 ![0] bcast_S4096_S4096x1_0
    (Host.reduce FloatOps.maximumf s (constant S_ .f32 0xFF800000#32) reducesTo_S4096x32_S4096_d1 h_S_))))

/-- The softmax of the scores. -/
def probs (s : FVec Ideal S4096x32 .f32) : FVec Ideal S4096x32 .f32 :=
  Host.divf (weights s) (broadcastInDim S4096x32 ![0, 1] bcast_S4096x1_S4096x32_0_1 (broadcastInDim S4096x1 ![0] bcast_S4096_S4096x1_0
    (Host.reduceAdd (weights s) (constant S_ .f32 0x00000000#32) reducesTo_S4096x32_S4096_d1 h_S_)))

/-- The numbers chosen, as a column. -/
def picks (X2 : IVec S4096x1 32) : IVec S4096x1 32 :=
  broadcastInDim S4096x1 ![0] bcast_S4096_S4096x1_0 (shapeCast S4096 X2 shapeCasts_S4096x1_S4096)

/-- Each token's own number beside the number it chose. -/
def twos (X2 : IVec S4096x1 32) : IVec S4096x2 32 :=
  concatenate S4096x2 1 [⟨S4096x1, broadcastInDim S4096x1 ![0] bcast_S4096_S4096x1_0 (iotaInDim S4096 32 0)⟩, ⟨S4096x1, picks X2⟩]
    concatenates_S4096x1_S4096x1_S4096x2_d1

/-- Where the two numbers are in range. -/
def twosIn (X2 : IVec S4096x1 32) : IVec S4096 1 :=
  Host.reduce IntOp.andi (andi (cmpi .sge (twos X2) (broadcastInDim S4096x2 ![] bcast_S_S4096x2 (constantI S_ 32 0#32)))
    (cmpi .sle (twos X2) (broadcastInDim S4096x2 ![0, 1] bcast_S1x2_S4096x2_0_1 (broadcastInDim S1x2 ![1] bcast_S2_S1x2_1
      (fun i => lit0 (S2.rowMajor i)))))) (constantI S_ 1 1#1) reducesTo_S4096x2_S4096_d1 h_S_

/-- Where the chosen number is in range. -/
def picksIn (X2 : IVec S4096x1 32) : IVec S4096 1 :=
  Host.reduce IntOp.andi (andi (cmpi .sge (picks X2) (broadcastInDim S4096x1 ![] bcast_S_S4096x1 (constantI S_ 32 0#32)))
    (cmpi .sle (picks X2) (broadcastInDim S4096x1 ![0, 1] bcast_S1x1_S4096x1_0_1 (broadcastInDim S1x1 ![1] bcast_S1_S1x1_1
      (constantI S1 32 31#32))))) (constantI S_ 1 1#1) reducesTo_S4096x1_S4096_d1 h_S_

/-- The probability of the chosen expert. -/
def probAt (P : FVec Ideal S4096x32 .f32) (X2 : IVec S4096x1 32) : FVec Ideal S4096 .f32 :=
  select (twosIn X2) (Host.gather gather_S4096x32_S4096x2_S4096_n_01_n_n_01_1_11 P (twos X2))
    (broadcastInDim S4096 ![] bcast_S_S4096 (constant S_ .f32 0x00000000#32))

/-- The weights of the chosen expert. -/
def expertOf (X3 : FVec Ideal S32x128x256 .bf16) (X2 : IVec S4096x1 32) : FVec Ideal S4096x128x256 .f32 :=
  select (broadcastInDim S4096x128x256 ![0] bcast_S4096_S4096x128x256_0 (picksIn X2))
    (Host.gather gather_S32x128x256_S4096x1_S4096x128x256_12_0_n_n_0_1_1128256 (extf .f32 X3 bitsLt_bf16_f32) (picks X2))
    (broadcastInDim S4096x128x256 ![] bcast_S_S4096x128x256 (constant S_ .f32 0x00000000#32))

/-- The result from its pieces. -/
def layer (X0 : FVec Ideal S4096x128 .bf16) (X4 : FVec Ideal S128x256 .bf16) (p : FVec Ideal S4096 .f32)
    (w : FVec Ideal S4096x128x256 .f32) : FVec Ideal S4096x256 .f32 :=
  addf (Host.dotGeneral dot_S4096x128_S128x256_S4096x256_1_0_0_1_n_n none (extf .f32 X0 bitsLt_bf16_f32) (extf .f32 X4 bitsLt_bf16_f32))
    (mulf (broadcastInDim S4096x256 ![0, 1] bcast_S4096x1_S4096x256_0_1 (broadcastInDim S4096x1 ![0] bcast_S4096_S4096x1_0 p))
      (Host.dotGeneral dot_S4096x128_S4096x128x256_S4096x256_1_1_n_2_0_0 none (extf .f32 X0 bitsLt_bf16_f32) w))

theorem reference_eq (m : (ℓ : Loc nD τ sig) → Buf (Elt Ideal) ℓ) (c : Dev nD) :
    res_main_v46 m c = layer (m (c.tc.loc main_arg0)) (m (c.tc.loc main_arg4))
      (probAt (probs (scores (m (c.tc.loc main_arg0)) (m (c.tc.loc main_arg1)))) (m (c.tc.loc main_arg2)))
      (expertOf (m (c.tc.loc main_arg3)) (m (c.tc.loc main_arg2))) := rfl

/-! ## Each at an index -/

variable (X0 : FVec Ideal S4096x128 .bf16) (X1 : FVec Ideal S128x32 .bf16) (X2 : IVec S4096x1 32) (X3 : FVec Ideal S32x128x256 .bf16)
  (X4 : FVec Ideal S128x256 .bf16) (t : Fin 4096)

theorem scores_apply (e : Fin 32) : scores X0 X1 (ix2 t e) = score (fun d => X0 (ix2 t d)) (fun d e => X1 (ix2 d e)) e := by
  pointwise [scores]
  rfl

theorem weights_apply (s : FVec Ideal S4096x32 .f32) (e : Fin 32) : weights s (ix2 t e) = weight (fun e => s (ix2 t e)) e := by
  pointwise [weights]
  rfl

theorem probs_apply (s : FVec Ideal S4096x32 .f32) (e : Fin 32) : probs s (ix2 t e) = prob (fun e => s (ix2 t e)) e := by
  unfold prob
  simp only [← weights_apply]
  pointwise [probs]

theorem picks_apply : picks X2 (ix2 t 0) = X2 (ix2 t 0) := by
  pointwise [picks]

theorem twos_zero : twos X2 (ix2 t 0) = BitVec.ofNat 32 t.val := by
  pointwise [twos]

theorem twos_one : twos X2 (ix2 t 1) = X2 (ix2 t 0) := by
  rw [← picks_apply X2 t]
  pointwise [twos]

theorem picksIn_apply : picksIn X2 (ix1 t) = if (X2 (ix2 t 0)).toNat < 32 then 1#1 else 0#1 := by
  have h : picksIn X2 (ix1 t) = IntOp.andi (IntOp.cmpi .sge (picks X2 (ix2 t 0)) 0#32) (IntOp.cmpi .sle (picks X2 (ix2 t 0)) 31#32) := by
    pointwise [picksIn]
    exact and_one _
  rw [h, picks_apply]
  split
  · next hi => exact within_one _ 31 (by omega) (by omega)
  · next hi => exact within_zero _ 31 (by omega) (by omega)

theorem twosIn_apply : twosIn X2 (ix1 t) = if (X2 (ix2 t 0)).toNat < 32 then 1#1 else 0#1 := by
  have h : twosIn X2 (ix1 t)
      = IntOp.andi (IntOp.andi (IntOp.cmpi .sge (twos X2 (ix2 t 0)) 0#32) (IntOp.cmpi .sle (twos X2 (ix2 t 0)) 4095#32))
          (IntOp.andi (IntOp.cmpi .sge (twos X2 (ix2 t 1)) 0#32) (IntOp.cmpi .sle (twos X2 (ix2 t 1)) 31#32)) := by
    pointwise [twosIn]
    exact and_two _
  have ht : (BitVec.ofNat 32 t.val).toNat = t.val := by rw [BitVec.toNat_ofNat]; exact Nat.mod_eq_of_lt (by omega)
  rw [h, twos_zero, twos_one, within_one (BitVec.ofNat 32 t.val) 4095 (by omega) (by omega)]
  split
  · next hi => rw [within_one _ 31 (by omega) (by omega)]; rfl
  · next hi => rw [within_zero _ 31 (by omega) (by omega)]; rfl

theorem probAt_apply (P : FVec Ideal S4096x32 .f32) : probAt P X2 (ix1 t) = chosen (X2 (ix2 t 0)) fun e => P (ix2 t e) := by
  have h : probAt P X2 (ix1 t) = Scalar.select (twosIn X2 (ix1 t))
      (Host.gather gather_S4096x32_S4096x2_S4096_n_01_n_n_01_1_11 P (twos X2) (ix1 t)) 0 := by
    pointwise [probAt]
  have ht : (BitVec.ofNat 32 t.val).toNat = t.val := by rw [BitVec.toNat_ofNat]; exact Nat.mod_eq_of_lt (by omega)
  rw [h, twosIn_apply, gather_pair]
  unfold chosen
  split
  · next hi =>
    rw [ValueIdx.select_one]
    refine congrArg P (congrArg₂ ix2 (Fin.ext ?_) (Fin.ext ?_))
    · show min (twos X2 (ix2 t 0)).toInt.toNat 4095 = t.val
      rw [twos_zero, toInt_small _ (by omega), ht, Int.toNat_natCast]
      omega
    · show min (twos X2 (ix2 t 1)).toInt.toNat 31 = (X2 (ix2 t 0)).toNat
      rw [twos_one, toInt_small _ (by omega), Int.toNat_natCast]
      omega
  · rw [ValueIdx.select_zero]

theorem expertOf_apply (hi : (X2 (ix2 t 0)).toNat < 32) (d : Fin 128) (h : Fin 256) :
    expertOf X3 X2 (ix3 t d h) = X3 (ix3 ⟨(X2 (ix2 t 0)).toNat, hi⟩ d h) := by
  have hs : expertOf X3 X2 (ix3 t d h) = Scalar.select (picksIn X2 (ix1 t))
      (Host.gather gather_S32x128x256_S4096x1_S4096x128x256_12_0_n_n_0_1_1128256 (extf .f32 X3 bitsLt_bf16_f32) (picks X2) (ix3 t d h)) 0 := by
    pointwise [expertOf]
  rw [hs, picksIn_apply, if_pos hi, gather_expert, ValueIdx.select_one]
  refine congrArg (fun k => X3 (ix3 k d h)) (Fin.ext ?_)
  show min (picks X2 (ix2 t 0)).toInt.toNat 31 = _
  rw [picks_apply, toInt_small _ (by omega), Int.toNat_natCast]
  exact Nat.min_eq_left (Nat.le_of_lt_succ hi)

theorem layer_apply (p : FVec Ideal S4096 .f32) (w : FVec Ideal S4096x128x256 .f32) (h : Fin 256) :
    layer X0 X4 p w (ix2 t h) = ∑ d, X0 (ix2 t d) * X4 (ix2 d h) + p (ix1 t) * ∑ d, X0 (ix2 t d) * w (ix3 t d h) := by
  pointwise [layer]

/-- The reference's result at an index. -/
theorem reference_apply (m : (ℓ : Loc nD τ sig) → Buf (Elt Ideal) ℓ) (c : Dev nD) (t : Fin 4096) (h : Fin 256) :
    (res_main_v46 m c : FVec Ideal S4096x256 .f32) (ix2 t h)
      = token (fun d => (m (c.tc.loc main_arg0) : FVec Ideal S4096x128 .bf16) (ix2 t d))
          (fun d e => (m (c.tc.loc main_arg1) : FVec Ideal S128x32 .bf16) (ix2 d e))
          ((m (c.tc.loc main_arg2) : IVec S4096x1 32) (ix2 t 0))
          (fun e d h => (m (c.tc.loc main_arg3) : FVec Ideal S32x128x256 .bf16) (ix3 e d h))
          (fun d h => (m (c.tc.loc main_arg4) : FVec Ideal S128x256 .bf16) (ix2 d h)) h := by
  rw [reference_eq, layer_apply, probAt_apply]
  unfold token
  refine congrArg _ ?_
  unfold chosen
  split
  · next hi =>
    simp only [expertOf_apply _ _ _ hi, probs_apply, scores_apply]
  · exact zero_mul _

end Cert.Value
-- ==== Proof.Equation.lean ====
/-
# The equation

Each device's result is its block of the reference's result.  The slabs a device reads are made from the experts of the sixteen devices, so they
hold the whole table; a device's tokens are its block of the tokens.
-/
module

public import proofs.«01_k».proof.Proof.KernelValue
public import proofs.«01_k».proof.Proof.ReferenceValue
public import proofs.«01_k».proof.Proof.Arrays
public import proofs.«01_k».proof.Defs

@[expose] public section

set_option maxRecDepth 16384

noncomputable section

namespace Cert.Value

open Idealize.ShloMosaic Idealize.SL.Sem
open Idealize.ShloMosaic.TcCoe
open Idealize.ShloMosaic.Pointwise

/-- Row `r` of block `c`, in the whole array. -/
abbrev rowOf (c : Fin 16) (r : Fin 256) : Fin 4096 := ⟨c.val * 256 + r.val, by omega⟩

/-- An array of rows cut in sixteen. -/
theorem block_rows {α : Type} {n : ℕ} (c : Fin 16) (v : (⟨2, ![4096, n]⟩ : Shape).Idx → α)
    (h : Layout.Tiles ⟨2, ![256, n]⟩ ⟨2, ![4096, n]⟩ 0 16) (r : Fin 256) (k : Fin n) :
    Layout.block ⟨2, ![256, n]⟩ ⟨2, ![4096, n]⟩ 0 16 c v h (ix2 r k) = v (ix2 (rowOf c r) k) := by
  rw [Layout.block_apply]
  refine congrArg v ?_
  funext b; apply Fin.ext
  match b with | ⟨0, _⟩ => rfl | ⟨1, _⟩ => rfl

/-- The table of experts cut in sixteen. -/
theorem block_experts {α : Type} (c : Fin 16) (v : (⟨3, ![32, 128, 256]⟩ : Shape).Idx → α)
    (h : Layout.Tiles ⟨3, ![2, 128, 256]⟩ ⟨3, ![32, 128, 256]⟩ 0 16) (e : Fin 2) (d : Fin 128) (k : Fin 256) (g : Fin 32)
    (hg : g.val = c.val * 2 + e.val) :
    Layout.block ⟨3, ![2, 128, 256]⟩ ⟨3, ![32, 128, 256]⟩ 0 16 c v h (ix3 e d k) = v (ix3 g d k) := by
  rw [Layout.block_apply]
  refine congrArg v ?_
  funext b; apply Fin.ext
  match b with | ⟨0, _⟩ => exact hg.symm | ⟨1, _⟩ => rfl | ⟨2, _⟩ => rfl

section
open Cert.KernelIdeal Cert.KernelIdeal.Gen Cert.Exchange

/-- The slabs made from the sixteen blocks of the table hold the table. -/
theorem slabs_hold (m : (ℓ : Loc nD τ sig) → Buf (Elt Ideal) ℓ) (ρ : Dev nD → PrngReg) (T : FVec Ideal ⟨3, ![32, 128, 256]⟩ .bf16)
    (hm : ∀ c : Dev nD, m (c.tc.loc main_arg3) = Layout.block ⟨3, ![2, 128, 256]⟩ ⟨3, ![32, 128, 256]⟩ 0 16 c T) :
    Holds (fun e d h => T (ix3 e d h)) (fun s => asSlab (chk m ρ s)) where
  left s hs d h := by
    refine (slab_left (x3 m ρ s) d h).trans ?_
    rw [x3_eq, hm, block_experts _ _ _ _ _ _ ⟨2 * s.val, hs⟩ (by show 2 * s.val = s.val * 2 + 0; omega)]
  right s hs d h := by
    refine (slab_right (x3 m ρ s) d h).trans ?_
    rw [x3_eq, hm, block_experts _ _ _ _ _ _ ⟨2 * s.val + 1, hs⟩ (by show 2 * s.val + 1 = s.val * 2 + 1; omega)]

/-- A device's result at an index, in the whole arrays. -/
theorem outAt_apply (m : (ℓ : Loc nD τ sig) → Buf (Elt Ideal) ℓ) (ρ : Dev nD → PrngReg) (c : Dev nD) (A0 : FVec Ideal ⟨2, ![4096, 128]⟩ .bf16)
    (A1 : FVec Ideal ⟨2, ![128, 32]⟩ .bf16) (A2 : IVec ⟨2, ![4096, 1]⟩ 32) (A3 : FVec Ideal ⟨3, ![32, 128, 256]⟩ .bf16)
    (A4 : FVec Ideal ⟨2, ![128, 256]⟩ .bf16)
    (h0 : m (c.tc.loc main_arg0) = Layout.block ⟨2, ![256, 128]⟩ ⟨2, ![4096, 128]⟩ 0 16 c A0) (h1 : m (c.tc.loc main_arg1) = A1)
    (h2 : m (c.tc.loc main_arg2) = Layout.block ⟨2, ![256, 1]⟩ ⟨2, ![4096, 1]⟩ 0 16 c A2)
    (h3 : ∀ c : Dev nD, m (c.tc.loc main_arg3) = Layout.block ⟨3, ![2, 128, 256]⟩ ⟨3, ![32, 128, 256]⟩ 0 16 c A3)
    (h4 : m (c.tc.loc main_arg4) = A4) (r h : Fin 256) :
    (outAt m ρ c : FVec Ideal S256x256 .f32) (ix2 r h)
      = token (fun d => A0 (ix2 (rowOf c r) d)) (fun d e => A1 (ix2 d e)) (A2 (ix2 (rowOf c r) 0)) (fun e d h => A3 (ix3 e d h))
          (fun d h => A4 (ix2 d h)) h := by
  refine (result_apply (slabs_hold m ρ A3 h3) (x0 m ρ c) (x1 m ρ c) (x2 m ρ c) (x4 m ρ c) r h).trans ?_
  rw [x0_eq, x1_eq, x2_eq, x4_eq, h0, h1, h2, h4]
  simp only [block_rows]

end

/-- Every device's result is its block of the reference's. -/
theorem equation : Cert.algebraic_KernelIdeal_ReferenceIdeal := by
  intro m g m' g' _ hm
  refine ⟨Cert.ReferenceIdeal.Value.res_main_v46 m' 0, ?_, ?_⟩
  · refine (θ_run Cert.KernelIdeal.defs _ _).mono (fun r h c => ⟨?_, (h.1 c).2⟩) (Cert.Exchange.run_arrays (F := Ideal) m g)
    refine (h.1 c).1.trans ?_
    funext j
    rw [eq_ix2 j]
    refine (outAt_apply m g c _ _ _ _ _ (hm c).1 (hm c).2.1 (hm c).2.2.1 (fun c => (hm c).2.2.2.1) (hm c).2.2.2.2 (j 0) (j 1)).trans ?_
    refine (reference_apply m' 0 (rowOf c (j 0)) (j 1)).symm.trans ?_
    exact (block_rows c (Cert.ReferenceIdeal.Value.res_main_v46 m' 0) _ (j 0) (j 1)).symm
  · exact (θ_run Cert.ReferenceIdeal.defs _ _).mono (fun _ h => h 0) (Cert.ReferenceIdeal.Value.run (F := Ideal) m' g')

end Cert.Value
-- ==== Proof.lean ====
/-
# The claims

The frames of the three programs, the idealization of the kernel, and the equation between the kernel and the reference, put together.
-/
module

public import proofs.«01_k».proof.Defs
public import proofs.«01_k».proof.Proof.Frames
public import proofs.«01_k».proof.Proof.Equation
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Frames.kernel, Cert.Frames.kernelIdeal, Cert.Frames.reference, trivial, Cert.Value.equation⟩

end Cert.Proof

end
